-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S2x4096x512 : Shape := ⟨3, ![2, 4096, 512]⟩
abbrev S2x2x4096x512 : Shape := ⟨4, ![2, 2, 4096, 512]⟩
abbrev S2x2x1024x512 : Shape := ⟨4, ![2, 2, 1024, 512]⟩
abbrev S2x2 : Shape := ⟨2, ![2, 2]⟩
abbrev S2x2x2 : Shape := ⟨3, ![2, 2, 2]⟩
abbrev S_ : Shape := ⟨0, ![]⟩
abbrev S1x1 : Shape := ⟨2, ![1, 1]⟩
abbrev S1x1x1024x512 : Shape := ⟨4, ![1, 1, 1024, 512]⟩
abbrev S1024x512 : Shape := ⟨2, ![1024, 512]⟩
abbrev S4096x512 : Shape := ⟨2, ![4096, 512]⟩
abbrev S1x4096x512 : Shape := ⟨3, ![1, 4096, 512]⟩
abbrev S1x1x1 : Shape := ⟨3, ![1, 1, 1]⟩
abbrev S1x1x4096x256 : Shape := ⟨4, ![1, 1, 4096, 256]⟩
abbrev S4096x256 : Shape := ⟨2, ![4096, 256]⟩
abbrev S1x4096x256 : Shape := ⟨3, ![1, 4096, 256]⟩
abbrev S1x1x4096x512 : Shape := ⟨4, ![1, 1, 4096, 512]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .bf16⟩
  | .local _ .vmem, ⟨0, _⟩ => ⟨S4096x1024, .bf16⟩
  | .local _ .vmem, ⟨1, _⟩ => ⟨S2x4096x512, .bf16⟩
  | .local _ .vmem, ⟨2, _⟩ => ⟨S2x2x4096x512, .bf16⟩
  | .local _ .vmem, ⟨3, _⟩ => ⟨S2x2x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 6 → Bool
  | ⟨0, _⟩ => true
  | ⟨1, _⟩ => true
  | ⟨2, _⟩ => true
  | ⟨3, _⟩ => true
  | ⟨4, _⟩ => false
  | ⟨5, _⟩ => true
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 6 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 4

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) (c0_i32_9 : BitVec 32) (c_m1_i32 : BitVec 32) : Fin 2 → Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v12 : BitVec 32 := Scalar.addi v2 c8_i32
  let v13 : BitVec 32 := Scalar.addi v12 c_m1_i32
  let c4_i32_8 : BitVec 32 := 4#32
  let v14 : BitVec 32 := Scalar.remsi v13 c4_i32_8
  let c512_i32 : BitVec 32 := 512#32
  let v15 : BitVec 32 := Scalar.muli v14 c512_i32
  let v16 : BitVec 32 := Scalar.addi c0_i32_9 v15
  ![0, v16.toNat]
def k0_off1_at (r : Fin 16) : BitVec 32 × BitVec 32 :=
  if r.val < 8 then
    if r.val < 4 then
      if r.val < 2 then
        if r.val < 1 then
          (0#32, 4294967295#32)
        else
          (0#32, 4294967294#32)
      else
        if r.val < 3 then
          (4096#32, 1#32)
        else
          (4096#32, 2#32)
    else
      if r.val < 6 then
        if r.val < 5 then
          (0#32, 4294967293#32)
        else
          (4096#32, 3#32)
      else
        if r.val < 7 then
          (0#32, 4294967292#32)
        else
          (4096#32, 4#32)
  else
    if r.val < 12 then
      if r.val < 10 then
        if r.val < 9 then
          (2048#32, 4294967295#32)
        else
          (6144#32, 1#32)
      else
        if r.val < 11 then
          (2048#32, 4294967294#32)
        else
          (6144#32, 2#32)
    else
      if r.val < 14 then
        if r.val < 13 then
          (2048#32, 4294967293#32)
        else
          (6144#32, 3#32)
      else
        if r.val < 15 then
          (2048#32, 4294967292#32)
        else
          (6144#32, 4#32)
def k0_dev3 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_85 : BitVec 32 := 1#32
  let v76 : BitVec 32 := Scalar.muli v6 c1_i32_85
  let v77 : BitVec 32 := Scalar.addi c0_i32_86 v76
  v77.toNat
def k0_dev4 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_99 : BitVec 32 := 1#32
  let v86 : BitVec 32 := Scalar.muli v6 c1_i32_99
  let v87 : BitVec 32 := Scalar.addi c0_i32_100 v86
  v87.toNat
def k0_dev5 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_140 : BitVec 32 := 1#32
  let v120 : BitVec 32 := Scalar.muli v4 c1_i32_140
  let v121 : BitVec 32 := Scalar.addi c0_i32_141 v120
  v121.toNat
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_154 : BitVec 32 := 1#32
  let v130 : BitVec 32 := Scalar.muli v4 c1_i32_154
  let v131 : BitVec 32 := Scalar.addi c0_i32_155 v130
  v131.toNat
def k0_dev7 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_244 : BitVec 32 := 1#32
  let v189 : BitVec 32 := Scalar.muli v6 c1_i32_244
  let v190 : BitVec 32 := Scalar.addi c0_i32_245 v189
  v190.toNat
def k0_dev8 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_279 : BitVec 32 := 1#32
  let v214 : BitVec 32 := Scalar.muli v6 c1_i32_279
  let v215 : BitVec 32 := Scalar.addi c0_i32_280 v214
  v215.toNat
def k0_dev9 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_352 : BitVec 32 := 1#32
  let v261 : BitVec 32 := Scalar.muli v4 c1_i32_352
  let v262 : BitVec 32 := Scalar.addi c0_i32_353 v261
  v262.toNat
def k0_dev10 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_388 : BitVec 32 := 1#32
  let v286 : BitVec 32 := Scalar.muli v4 c1_i32_388
  let v287 : BitVec 32 := Scalar.addi c0_i32_389 v286
  v287.toNat
def k0_dev11 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_463 : BitVec 32 := 1#32
  let v342 : BitVec 32 := Scalar.muli v4 c1_i32_463
  let v343 : BitVec 32 := Scalar.addi c0_i32_464 v342
  v343.toNat
def k0_dev12 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_499 : BitVec 32 := 1#32
  let v361 : BitVec 32 := Scalar.muli v6 c1_i32_499
  let v362 : BitVec 32 := Scalar.addi c0_i32_500 v361
  v362.toNat
def k0_dev13 (d0 : Dev nD) : Nat :=
  let c0_i32_536 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_535 : BitVec 32 := 1#32
  let v386 : BitVec 32 := Scalar.muli v6 c1_i32_535
  let v387 : BitVec 32 := Scalar.addi c0_i32_536 v386
  v387.toNat
def k0_dev14 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_581 : BitVec 32 := 1#32
  let v420 : BitVec 32 := Scalar.muli v6 c1_i32_581
  let v421 : BitVec 32 := Scalar.addi c0_i32_582 v420
  v421.toNat
def k0_dev15 (d0 : Dev nD) : Nat :=
  let c0_i32_618 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_617 : BitVec 32 := 1#32
  let v439 : BitVec 32 := Scalar.muli v4 c1_i32_617
  let v440 : BitVec 32 := Scalar.addi c0_i32_618 v439
  v440.toNat
def k0_dev16 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_653 : BitVec 32 := 1#32
  let v464 : BitVec 32 := Scalar.muli v4 c1_i32_653
  let v465 : BitVec 32 := Scalar.addi c0_i32_654 v464
  v465.toNat
def k0_dev17 (d0 : Dev nD) : Nat :=
  let c0_i32_728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_727 : BitVec 32 := 1#32
  let v520 : BitVec 32 := Scalar.muli v4 c1_i32_727
  let v521 : BitVec 32 := Scalar.addi c0_i32_728 v520
  v521.toNat
def k0_dev18 (d0 : Dev nD) : Nat :=
  let c0_i32_768 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_767 : BitVec 32 := 1#32
  let v554 : BitVec 32 := Scalar.muli v6 c1_i32_767
  let v555 : BitVec 32 := Scalar.addi c0_i32_768 v554
  v555.toNat
def k0_dev19 (d0 : Dev nD) : Nat :=
  let c0_i32_808 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_807 : BitVec 32 := 1#32
  let v594 : BitVec 32 := Scalar.muli v6 c1_i32_807
  let v595 : BitVec 32 := Scalar.addi c0_i32_808 v594
  v595.toNat
def k0_off2 (d0 : Dev nD) (c0_i32_826 : BitVec 32) : Fin 2 → Nat :=
  let c0_i32_830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_825 : BitVec 32 := 512#32
  let v614 : BitVec 32 := Scalar.muli v2 c512_i32_825
  let v615 : BitVec 32 := Scalar.addi c0_i32_826 v614
  ![0, v615.toNat]
def k0_dev20 (d0 : Dev nD) : Nat :=
  let c0_i32_863 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_862 : BitVec 32 := 1#32
  let v635 : BitVec 32 := Scalar.muli v6 c1_i32_862
  let v636 : BitVec 32 := Scalar.addi c0_i32_863 v635
  v636.toNat
def k0_dev21 (d0 : Dev nD) : Nat :=
  let c0_i32_903 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_902 : BitVec 32 := 1#32
  let v669 : BitVec 32 := Scalar.muli v4 c1_i32_902
  let v670 : BitVec 32 := Scalar.addi c0_i32_903 v669
  v670.toNat
def k0_dev22 (d0 : Dev nD) : Nat :=
  let c0_i32_943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_942 : BitVec 32 := 1#32
  let v709 : BitVec 32 := Scalar.muli v4 c1_i32_942
  let v710 : BitVec 32 := Scalar.addi c0_i32_943 v709
  v710.toNat
def k0_dev23 (d0 : Dev nD) : Nat :=
  let c0_i32_998 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_997 : BitVec 32 := 1#32
  let v750 : BitVec 32 := Scalar.muli v4 c1_i32_997
  let v751 : BitVec 32 := Scalar.addi c0_i32_998 v750
  v751.toNat
def k0_dev24 (d0 : Dev nD) : Nat :=
  let c0_i32_1035 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1034 : BitVec 32 := 1#32
  let v771 : BitVec 32 := Scalar.muli v6 c1_i32_1034
  let v772 : BitVec 32 := Scalar.addi c0_i32_1035 v771
  v772.toNat
def k0_dev25 (d0 : Dev nD) : Nat :=
  let c0_i32_1071 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1070 : BitVec 32 := 1#32
  let v788 : BitVec 32 := Scalar.muli v6 c1_i32_1070
  let v789 : BitVec 32 := Scalar.addi c0_i32_1071 v788
  v789.toNat
def k0_dev26 (d0 : Dev nD) : Nat :=
  let c0_i32_1101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1100 : BitVec 32 := 1#32
  let v806 : BitVec 32 := Scalar.muli v6 c1_i32_1100
  let v807 : BitVec 32 := Scalar.addi c0_i32_1101 v806
  v807.toNat
def k0_off3 (d0 : Dev nD) (c0_i32_1110 : BitVec 32) (c_m1_i32_1107 : BitVec 32) : Fin 2 → Nat :=
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_1106 : BitVec 32 := 8#32
  let v816 : BitVec 32 := Scalar.addi v2 c8_i32_1106
  let v817 : BitVec 32 := Scalar.addi v816 c_m1_i32_1107
  let c4_i32_1108 : BitVec 32 := 4#32
  let v818 : BitVec 32 := Scalar.remsi v817 c4_i32_1108
  let c512_i32_1109 : BitVec 32 := 512#32
  let v819 : BitVec 32 := Scalar.muli v818 c512_i32_1109
  let v820 : BitVec 32 := Scalar.addi c0_i32_1110 v819
  ![0, v820.toNat]
def k0_off3_at (r : Fin 12) : BitVec 32 × BitVec 32 :=
  if r.val < 6 then
    if r.val < 3 then
      if r.val < 1 then
        (0#32, 4294967295#32)
      else
        if r.val < 2 then
          (4096#32, 1#32)
        else
          (0#32, 4294967294#32)
    else
      if r.val < 4 then
        (4096#32, 2#32)
      else
        if r.val < 5 then
          (0#32, 4294967293#32)
        else
          (4096#32, 3#32)
  else
    if r.val < 9 then
      if r.val < 7 then
        (2048#32, 4294967295#32)
      else
        if r.val < 8 then
          (6144#32, 1#32)
        else
          (2048#32, 4294967294#32)
    else
      if r.val < 10 then
        (6144#32, 2#32)
      else
        if r.val < 11 then
          (2048#32, 4294967293#32)
        else
          (6144#32, 3#32)
def k0_dev27 (d0 : Dev nD) : Nat :=
  let c0_i32_1147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1146 : BitVec 32 := 1#32
  let v836 : BitVec 32 := Scalar.muli v4 c1_i32_1146
  let v837 : BitVec 32 := Scalar.addi c0_i32_1147 v836
  v837.toNat
def k0_dev28 (d0 : Dev nD) : Nat :=
  let c0_i32_1177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1176 : BitVec 32 := 1#32
  let v854 : BitVec 32 := Scalar.muli v4 c1_i32_1176
  let v855 : BitVec 32 := Scalar.addi c0_i32_1177 v854
  v855.toNat
def k0_dev29 (d0 : Dev nD) : Nat :=
  let c0_i32_1233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1232 : BitVec 32 := 1#32
  let v893 : BitVec 32 := Scalar.muli v4 c1_i32_1232
  let v894 : BitVec 32 := Scalar.addi c0_i32_1233 v893
  v894.toNat
def k0_dev30 (d0 : Dev nD) : Nat :=
  let c0_i32_1273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1272 : BitVec 32 := 1#32
  let v914 : BitVec 32 := Scalar.muli v6 c1_i32_1272
  let v915 : BitVec 32 := Scalar.addi c0_i32_1273 v914
  v915.toNat
def k0_dev31 (d0 : Dev nD) : Nat :=
  let c0_i32_1303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1302 : BitVec 32 := 1#32
  let v926 : BitVec 32 := Scalar.muli v6 c1_i32_1302
  let v927 : BitVec 32 := Scalar.addi c0_i32_1303 v926
  v927.toNat
def k0_dev32 (d0 : Dev nD) : Nat :=
  let c0_i32_1333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1332 : BitVec 32 := 1#32
  let v944 : BitVec 32 := Scalar.muli v6 c1_i32_1332
  let v945 : BitVec 32 := Scalar.addi c0_i32_1333 v944
  v945.toNat
def k0_dev33 (d0 : Dev nD) : Nat :=
  let c0_i32_1379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1378 : BitVec 32 := 1#32
  let v974 : BitVec 32 := Scalar.muli v4 c1_i32_1378
  let v975 : BitVec 32 := Scalar.addi c0_i32_1379 v974
  v975.toNat
def k0_dev34 (d0 : Dev nD) : Nat :=
  let c0_i32_1409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1408 : BitVec 32 := 1#32
  let v992 : BitVec 32 := Scalar.muli v4 c1_i32_1408
  let v993 : BitVec 32 := Scalar.addi c0_i32_1409 v992
  v993.toNat
def k0_dev35 (d0 : Dev nD) : Nat :=
  let c0_i32_1465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1464 : BitVec 32 := 1#32
  let v1031 : BitVec 32 := Scalar.muli v4 c1_i32_1464
  let v1032 : BitVec 32 := Scalar.addi c0_i32_1465 v1031
  v1032.toNat
def k0_dev36 (d0 : Dev nD) : Nat :=
  let c0_i32_1519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1518 : BitVec 32 := 1#32
  let v1063 : BitVec 32 := Scalar.muli v6 c1_i32_1518
  let v1064 : BitVec 32 := Scalar.addi c0_i32_1519 v1063
  v1064.toNat
def k0_dev37 (d0 : Dev nD) : Nat :=
  let c0_i32_1629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1628 : BitVec 32 := 1#32
  let v1135 : BitVec 32 := Scalar.muli v4 c1_i32_1628
  let v1136 : BitVec 32 := Scalar.addi c0_i32_1629 v1135
  v1136.toNat
def k0_dev38 (d0 : Dev nD) : Nat :=
  let c0_i32_1658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1657 : BitVec 32 := 1#32
  let v1152 : BitVec 32 := Scalar.muli v6 c1_i32_1657
  let v1153 : BitVec 32 := Scalar.addi c0_i32_1658 v1152
  v1153.toNat
def k0_dev39 (d0 : Dev nD) : Nat :=
  let c0_i32_1672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1671 : BitVec 32 := 1#32
  let v1162 : BitVec 32 := Scalar.muli v6 c1_i32_1671
  let v1163 : BitVec 32 := Scalar.addi c0_i32_1672 v1162
  v1163.toNat
def k0_dev40 (d0 : Dev nD) : Nat :=
  let c0_i32_1688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1687 : BitVec 32 := 1#32
  let v1179 : BitVec 32 := Scalar.muli v6 c1_i32_1687
  let v1180 : BitVec 32 := Scalar.addi c0_i32_1688 v1179
  v1180.toNat
def k0_dev41 (d0 : Dev nD) : Nat :=
  let c0_i32_1717 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1716 : BitVec 32 := 1#32
  let v1196 : BitVec 32 := Scalar.muli v4 c1_i32_1716
  let v1197 : BitVec 32 := Scalar.addi c0_i32_1717 v1196
  v1197.toNat
def k0_dev42 (d0 : Dev nD) : Nat :=
  let c0_i32_1731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1730 : BitVec 32 := 1#32
  let v1206 : BitVec 32 := Scalar.muli v4 c1_i32_1730
  let v1207 : BitVec 32 := Scalar.addi c0_i32_1731 v1206
  v1207.toNat
def k0_dev43 (d0 : Dev nD) : Nat :=
  let c0_i32_1825 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1824 : BitVec 32 := 1#32
  let v1267 : BitVec 32 := Scalar.muli v6 c1_i32_1824
  let v1268 : BitVec 32 := Scalar.addi c0_i32_1825 v1267
  v1268.toNat
def k0_dev44 (d0 : Dev nD) : Nat :=
  let c0_i32_1861 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1860 : BitVec 32 := 1#32
  let v1292 : BitVec 32 := Scalar.muli v6 c1_i32_1860
  let v1293 : BitVec 32 := Scalar.addi c0_i32_1861 v1292
  v1293.toNat
def k0_dev45 (d0 : Dev nD) : Nat :=
  let c0_i32_1939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1938 : BitVec 32 := 1#32
  let v1341 : BitVec 32 := Scalar.muli v4 c1_i32_1938
  let v1342 : BitVec 32 := Scalar.addi c0_i32_1939 v1341
  v1342.toNat
def k0_dev46 (d0 : Dev nD) : Nat :=
  let c0_i32_1975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1974 : BitVec 32 := 1#32
  let v1366 : BitVec 32 := Scalar.muli v4 c1_i32_1974
  let v1367 : BitVec 32 := Scalar.addi c0_i32_1975 v1366
  v1367.toNat
def k0_dev47 (d0 : Dev nD) : Nat :=
  let c0_i32_2050 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2049 : BitVec 32 := 1#32
  let v1422 : BitVec 32 := Scalar.muli v4 c1_i32_2049
  let v1423 : BitVec 32 := Scalar.addi c0_i32_2050 v1422
  v1423.toNat
def k0_dev48 (d0 : Dev nD) : Nat :=
  let c0_i32_2086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2085 : BitVec 32 := 1#32
  let v1441 : BitVec 32 := Scalar.muli v6 c1_i32_2085
  let v1442 : BitVec 32 := Scalar.addi c0_i32_2086 v1441
  v1442.toNat
def k0_dev49 (d0 : Dev nD) : Nat :=
  let c0_i32_2122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2121 : BitVec 32 := 1#32
  let v1466 : BitVec 32 := Scalar.muli v6 c1_i32_2121
  let v1467 : BitVec 32 := Scalar.addi c0_i32_2122 v1466
  v1467.toNat
def k0_dev50 (d0 : Dev nD) : Nat :=
  let c0_i32_2157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2156 : BitVec 32 := 1#32
  let v1490 : BitVec 32 := Scalar.muli v6 c1_i32_2156
  let v1491 : BitVec 32 := Scalar.addi c0_i32_2157 v1490
  v1491.toNat
def k0_dev51 (d0 : Dev nD) : Nat :=
  let c0_i32_2193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2192 : BitVec 32 := 1#32
  let v1509 : BitVec 32 := Scalar.muli v4 c1_i32_2192
  let v1510 : BitVec 32 := Scalar.addi c0_i32_2193 v1509
  v1510.toNat
def k0_dev52 (d0 : Dev nD) : Nat :=
  let c0_i32_2229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2228 : BitVec 32 := 1#32
  let v1534 : BitVec 32 := Scalar.muli v4 c1_i32_2228
  let v1535 : BitVec 32 := Scalar.addi c0_i32_2229 v1534
  v1535.toNat
def k0_dev53 (d0 : Dev nD) : Nat :=
  let c0_i32_2292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2291 : BitVec 32 := 1#32
  let v1580 : BitVec 32 := Scalar.muli v4 c1_i32_2291
  let v1581 : BitVec 32 := Scalar.addi c0_i32_2292 v1580
  v1581.toNat
def k0_dev54 (d0 : Dev nD) : Nat :=
  let c0_i32_2332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2331 : BitVec 32 := 1#32
  let v1614 : BitVec 32 := Scalar.muli v6 c1_i32_2331
  let v1615 : BitVec 32 := Scalar.addi c0_i32_2332 v1614
  v1615.toNat
def k0_dev55 (d0 : Dev nD) : Nat :=
  let c0_i32_2372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2371 : BitVec 32 := 1#32
  let v1654 : BitVec 32 := Scalar.muli v6 c1_i32_2371
  let v1655 : BitVec 32 := Scalar.addi c0_i32_2372 v1654
  v1655.toNat
def k0_dev56 (d0 : Dev nD) : Nat :=
  let c0_i32_2415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2414 : BitVec 32 := 1#32
  let v1685 : BitVec 32 := Scalar.muli v6 c1_i32_2414
  let v1686 : BitVec 32 := Scalar.addi c0_i32_2415 v1685
  v1686.toNat
def k0_dev57 (d0 : Dev nD) : Nat :=
  let c0_i32_2455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2454 : BitVec 32 := 1#32
  let v1719 : BitVec 32 := Scalar.muli v4 c1_i32_2454
  let v1720 : BitVec 32 := Scalar.addi c0_i32_2455 v1719
  v1720.toNat
def k0_dev58 (d0 : Dev nD) : Nat :=
  let c0_i32_2495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2494 : BitVec 32 := 1#32
  let v1759 : BitVec 32 := Scalar.muli v4 c1_i32_2494
  let v1760 : BitVec 32 := Scalar.addi c0_i32_2495 v1759
  v1760.toNat
def k0_dev59 (d0 : Dev nD) : Nat :=
  let c0_i32_2538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2537 : BitVec 32 := 1#32
  let v1790 : BitVec 32 := Scalar.muli v4 c1_i32_2537
  let v1791 : BitVec 32 := Scalar.addi c0_i32_2538 v1790
  v1791.toNat
def k0_dev60 (d0 : Dev nD) : Nat :=
  let c0_i32_2575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2574 : BitVec 32 := 1#32
  let v1811 : BitVec 32 := Scalar.muli v6 c1_i32_2574
  let v1812 : BitVec 32 := Scalar.addi c0_i32_2575 v1811
  v1812.toNat
def k0_dev61 (d0 : Dev nD) : Nat :=
  let c0_i32_2611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2610 : BitVec 32 := 1#32
  let v1828 : BitVec 32 := Scalar.muli v6 c1_i32_2610
  let v1829 : BitVec 32 := Scalar.addi c0_i32_2611 v1828
  v1829.toNat
def k0_dev62 (d0 : Dev nD) : Nat :=
  let c0_i32_2641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2640 : BitVec 32 := 1#32
  let v1846 : BitVec 32 := Scalar.muli v6 c1_i32_2640
  let v1847 : BitVec 32 := Scalar.addi c0_i32_2641 v1846
  v1847.toNat
def k0_dev63 (d0 : Dev nD) : Nat :=
  let c0_i32_2687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2686 : BitVec 32 := 1#32
  let v1876 : BitVec 32 := Scalar.muli v4 c1_i32_2686
  let v1877 : BitVec 32 := Scalar.addi c0_i32_2687 v1876
  v1877.toNat
def k0_dev64 (d0 : Dev nD) : Nat :=
  let c0_i32_2717 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2716 : BitVec 32 := 1#32
  let v1894 : BitVec 32 := Scalar.muli v4 c1_i32_2716
  let v1895 : BitVec 32 := Scalar.addi c0_i32_2717 v1894
  v1895.toNat
def k0_dev65 (d0 : Dev nD) : Nat :=
  let c0_i32_2773 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2772 : BitVec 32 := 1#32
  let v1933 : BitVec 32 := Scalar.muli v4 c1_i32_2772
  let v1934 : BitVec 32 := Scalar.addi c0_i32_2773 v1933
  v1934.toNat
def k0_dev66 (d0 : Dev nD) : Nat :=
  let c0_i32_2813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2812 : BitVec 32 := 1#32
  let v1954 : BitVec 32 := Scalar.muli v6 c1_i32_2812
  let v1955 : BitVec 32 := Scalar.addi c0_i32_2813 v1954
  v1955.toNat
def k0_dev67 (d0 : Dev nD) : Nat :=
  let c0_i32_2843 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2842 : BitVec 32 := 1#32
  let v1966 : BitVec 32 := Scalar.muli v6 c1_i32_2842
  let v1967 : BitVec 32 := Scalar.addi c0_i32_2843 v1966
  v1967.toNat
def k0_dev68 (d0 : Dev nD) : Nat :=
  let c0_i32_2873 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2872 : BitVec 32 := 1#32
  let v1984 : BitVec 32 := Scalar.muli v6 c1_i32_2872
  let v1985 : BitVec 32 := Scalar.addi c0_i32_2873 v1984
  v1985.toNat
def k0_dev69 (d0 : Dev nD) : Nat :=
  let c0_i32_2919 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2918 : BitVec 32 := 1#32
  let v2014 : BitVec 32 := Scalar.muli v4 c1_i32_2918
  let v2015 : BitVec 32 := Scalar.addi c0_i32_2919 v2014
  v2015.toNat
def k0_dev70 (d0 : Dev nD) : Nat :=
  let c0_i32_2949 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2948 : BitVec 32 := 1#32
  let v2032 : BitVec 32 := Scalar.muli v4 c1_i32_2948
  let v2033 : BitVec 32 := Scalar.addi c0_i32_2949 v2032
  v2033.toNat
def k0_dev71 (d0 : Dev nD) : Nat :=
  let c0_i32_3136_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_3135_r0 : BitVec 32 := 1#32
  let v2149_r0 : BitVec 32 := Scalar.muli v4 c1_i32_3135_r0
  let v2150_r0 : BitVec 32 := Scalar.addi c0_i32_3136_r0 v2149_r0
  v2150_r0.toNat
def k0_dev72 (d0 : Dev nD) : Nat :=
  let c0_i32_3139_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_3138_r0 : BitVec 32 := 1#32
  let v2151_r0 : BitVec 32 := Scalar.muli v6 c1_i32_3138_r0
  let v2152_r0 : BitVec 32 := Scalar.addi c0_i32_3139_r0 v2151_r0
  v2152_r0.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Prog.lean ====
/-
# The kernel's body, written as a program of named steps

`cc0_body` is printed flat: some eight hundred operations in ninety-odd pieces. This module names the steps those
operations are made of (a weight fetch, a matrix product, one half-block send, a landing awaited, a credit given
back, ...), each at a symbolic device, direction (`di`), half (`q`) and position (`n`, `k`, `t`, `m`), composes
them into `body`, and states that `body` is the printed program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option backward.proofsInPublic true

noncomputable section

namespace Cert.RingProof

open Cert.KernelIdeal Cert.KernelIdeal.Gen

open Idealize.ShloMosaic
open Idealize.ShloMosaic.TcCoe
open Idealize.SL Idealize.SL.Sem

variable {F : FTy → Type} [FloatOps F]

/-- The program type of every step. -/
abbrev PG (F : FTy → Type) [FloatOps F] : Type → Type 1 := Prog (TpuEff nD τ sig (Elt F) Λ₀ .tc)

/-- The slot of a two-slot buffer that position `n` uses. -/
def sl (n : ℕ) : Fin 2 := ⟨n % 2, Nat.mod_lt _ (by decide)⟩

/-! ## Devices -/

/-- The device on the left. -/
def lft (d : Dev nD) : Dev nD := ⟨k0_dev1 d, k0_dev1_lt d⟩
/-- The device on the right. -/
def rgt (d : Dev nD) : Dev nD := ⟨k0_dev2 d, k0_dev2_lt d⟩

/-- Direction 0 sends to the right, direction 1 to the left. -/
def dst (di : Fin 2) (d : Dev nD) : Dev nD := match di with | 0 => rgt d | 1 => lft d
/-- Direction 0 receives from the left, direction 1 from the right. -/
def src (di : Fin 2) (d : Dev nD) : Dev nD := match di with | 0 => lft d | 1 => rgt d

/-! ## Semaphores -/

def sendS (di q : Fin 2) : DmaSem sig := ⟨1 + 2 * di.val + q.val, by have := di.isLt; have := q.isLt; show _ < 21; omega⟩
def recvS (di s q : Fin 2) : DmaSem sig :=
  ⟨5 + 4 * di.val + 2 * s.val + q.val, by have := di.isLt; have := q.isLt; have := s.isLt; show _ < 21; omega⟩
def storeS (di s : Fin 2) : DmaSem sig := ⟨13 + 2 * di.val + s.val, by have := di.isLt; have := s.isLt; show _ < 21; omega⟩
def wS (di s : Fin 2) : DmaSem sig := ⟨17 + 2 * di.val + s.val, by have := di.isLt; have := s.isLt; show _ < 21; omega⟩
def credS (di s : Fin 2) : Sem sig := ⟨2 * di.val + s.val, by have := di.isLt; have := s.isLt; show _ < 6; omega⟩
def barS : Sem sig := 4
def endS : Sem sig := 5

/-! ## Rectangles and views -/

theorem inb_recvHalf (di s q : Fin 2) : ∀ a, (![di.val, s.val, 0, 256 * q.val] : Fin 4 → Nat) a + S1x1x4096x256.size a ≤ S2x2x4096x512.size a := by
  revert di s q; decide
theorem inb_recvWhole (di s : Fin 2) : ∀ a, (![di.val, s.val, 0, 0] : Fin 4 → Nat) a + S1x1x4096x512.size a ≤ S2x2x4096x512.size a := by
  revert di s; decide
theorem inb_sendHalf (di q : Fin 2) : ∀ a, (![di.val, 0, 256 * q.val] : Fin 3 → Nat) a + S1x4096x256.size a ≤ S2x4096x512.size a := by
  revert di q; decide
theorem inb_sendWhole (di : Fin 2) : ∀ a, (![di.val, 0, 0] : Fin 3 → Nat) a + S1x4096x512.size a ≤ S2x4096x512.size a := by
  revert di; decide
theorem inb_wSlot (di s : Fin 2) : ∀ a, (![di.val, s.val, 0, 0] : Fin 4 → Nat) a + S1x1x1024x512.size a ≤ S2x2x1024x512.size a := by
  revert di s; decide

abbrev rRecvHalf (di s q : Fin 2) : Rect S2x2x4096x512 :=
  Rect.unit (s := S2x2x4096x512) ![di.val, s.val, 0, 256 * q.val] S1x1x4096x256.size (inb_recvHalf di s q)
abbrev rRecvWhole (di s : Fin 2) : Rect S2x2x4096x512 :=
  Rect.unit (s := S2x2x4096x512) ![di.val, s.val, 0, 0] S1x1x4096x512.size (inb_recvWhole di s)
abbrev rSendHalf (di q : Fin 2) : Rect S2x4096x512 :=
  Rect.unit (s := S2x4096x512) ![di.val, 0, 256 * q.val] S1x4096x256.size (inb_sendHalf di q)
abbrev rSendWhole (di : Fin 2) : Rect S2x4096x512 :=
  Rect.unit (s := S2x4096x512) ![di.val, 0, 0] S1x4096x512.size (inb_sendWhole di)
abbrev rWSlot (di s : Fin 2) : Rect S2x2x1024x512 :=
  Rect.unit (s := S2x2x1024x512) ![di.val, s.val, 0, 0] S1x1x1024x512.size (inb_wSlot di s)

theorem words_recvHalf : ∀ di s q : Fin 2, (rRecvHalf di s q).WholeWords (EltTy.packing .bf16)
  | 0, 0, 0 => wordsbf16_S2x2x4096x512_S1x1x4096x256_0_0_0_0
  | 0, 0, 1 => wordsbf16_S2x2x4096x512_S1x1x4096x256_0_0_0_256
  | 0, 1, 0 => wordsbf16_S2x2x4096x512_S1x1x4096x256_0_1_0_0
  | 0, 1, 1 => wordsbf16_S2x2x4096x512_S1x1x4096x256_0_1_0_256
  | 1, 0, 0 => wordsbf16_S2x2x4096x512_S1x1x4096x256_1_0_0_0
  | 1, 0, 1 => wordsbf16_S2x2x4096x512_S1x1x4096x256_1_0_0_256
  | 1, 1, 0 => wordsbf16_S2x2x4096x512_S1x1x4096x256_1_1_0_0
  | 1, 1, 1 => wordsbf16_S2x2x4096x512_S1x1x4096x256_1_1_0_256
theorem words_recvWhole : ∀ di s : Fin 2, (rRecvWhole di s).WholeWords (EltTy.packing .bf16)
  | 0, 0 => wordsbf16_S2x2x4096x512_S1x1x4096x512_0_0_0_0
  | 0, 1 => wordsbf16_S2x2x4096x512_S1x1x4096x512_0_1_0_0
  | 1, 0 => wordsbf16_S2x2x4096x512_S1x1x4096x512_1_0_0_0
  | 1, 1 => wordsbf16_S2x2x4096x512_S1x1x4096x512_1_1_0_0
theorem words_sendHalf : ∀ di q : Fin 2, (rSendHalf di q).WholeWords (EltTy.packing .bf16)
  | 0, 0 => wordsbf16_S2x4096x512_S1x4096x256_0_0_0
  | 0, 1 => wordsbf16_S2x4096x512_S1x4096x256_0_0_256
  | 1, 0 => wordsbf16_S2x4096x512_S1x4096x256_1_0_0
  | 1, 1 => wordsbf16_S2x4096x512_S1x4096x256_1_0_256
theorem words_sendWhole : ∀ di : Fin 2, (rSendWhole di).WholeWords (EltTy.packing .bf16)
  | 0 => wordsbf16_S2x4096x512_S1x4096x512_0_0_0
  | 1 => wordsbf16_S2x4096x512_S1x4096x512_1_0_0
theorem packed_sendHalf : ∀ di q : Fin 2, (rSendHalf di q).PackedRows (EltTy.packing .bf16)
  | 0, 0 => packedbf16_S2x4096x512_S1x4096x256_0_0_0
  | 0, 1 => packedbf16_S2x4096x512_S1x4096x256_0_0_256
  | 1, 0 => packedbf16_S2x4096x512_S1x4096x256_1_0_0
  | 1, 1 => packedbf16_S2x4096x512_S1x4096x256_1_0_256
theorem packed_sendWhole : ∀ di : Fin 2, (rSendWhole di).PackedRows (EltTy.packing .bf16)
  | 0 => packedbf16_S2x4096x512_S1x4096x512_0_0_0
  | 1 => packedbf16_S2x4096x512_S1x4096x512_1_0_0
theorem words_wSlot : ∀ di s : Fin 2, (rWSlot di s).WholeWords (EltTy.packing .bf16)
  | 0, 0 => wordsbf16_S2x2x1024x512_S1x1x1024x512_0_0_0_0
  | 0, 1 => wordsbf16_S2x2x1024x512_S1x1x1024x512_0_1_0_0
  | 1, 0 => wordsbf16_S2x2x1024x512_S1x1x1024x512_1_0_0_0
  | 1, 1 => wordsbf16_S2x2x1024x512_S1x1x1024x512_1_1_0_0

abbrev xM : Memref sig .tc .vmem S4096x1024 .bf16 := Memref.whole cc0_stg0_0
abbrev wM : Memref sig .tc .hbm S1024x8192 .bf16 := Memref.whole main_arg1
abbrev oM : Memref sig .tc .hbm S4096x8192 .bf16 := Memref.whole main_v1
abbrev sM : Memref sig .tc .vmem S2x4096x512 .bf16 := Memref.whole cc0_scratch0
abbrev rM : Memref sig .tc .vmem S2x2x4096x512 .bf16 := Memref.whole cc0_scratch1
abbrev wsM : Memref sig .tc .vmem S2x2x1024x512 .bf16 := Memref.whole cc0_scratch2

/-- Half `q` of landing slot `s` of direction `di`. -/
abbrev recvHalf (di s q : Fin 2) : Memref sig .tc .vmem S4096x256 .bf16 :=
  (rM.slice (rRecvHalf di s q) (fun _ => rfl)).squeeze S4096x256 squeezes_S1x1x4096x256_S4096x256
/-- Landing slot `s` of direction `di`. -/
abbrev recvWhole (di s : Fin 2) : Memref sig .tc .vmem S4096x512 .bf16 :=
  (rM.slice (rRecvWhole di s) (fun _ => rfl)).squeeze S4096x512 squeezes_S1x1x4096x512_S4096x512
/-- Half `q` of the send buffer of direction `di`. -/
abbrev sendHalf (di q : Fin 2) : Memref sig .tc .vmem S4096x256 .bf16 :=
  (sM.slice (rSendHalf di q) (fun _ => rfl)).squeeze S4096x256 squeezes_S1x4096x256_S4096x256
/-- The send buffer of direction `di`. -/
abbrev sendWhole (di : Fin 2) : Memref sig .tc .vmem S4096x512 .bf16 :=
  (sM.slice (rSendWhole di) (fun _ => rfl)).squeeze S4096x512 squeezes_S1x4096x512_S4096x512
/-- Weight slot `s` of direction `di`. -/
abbrev wSlot (di s : Fin 2) : Memref sig .tc .vmem S1024x512 .bf16 :=
  (wsM.slice (rWSlot di s) (fun _ => rfl)).squeeze S1024x512 squeezes_S1x1x1024x512_S1024x512

/-- The number of fetch `t` of direction `di` among the sixteen printed ones. -/
def fIx (di : Fin 2) (t : ℕ) : Fin 16 :=
  ⟨(if t < 2 then 2 * di.val + t else 2 * t + di.val) % 16, Nat.mod_lt _ (by decide)⟩
/-- The weight columns that fetch `t` of direction `di` reads. -/
abbrev wCol (d : Dev nD) (di : Fin 2) (t : ℕ) : Memref sig .tc .hbm S1024x512 .bf16 :=
  wM.slice (Rect.unit (s := S1024x8192) (k0_off1 d (k0_off1_at (fIx di t)).1 (k0_off1_at (fIx di t)).2) S1024x512.size
    (k0_off1_inb d (fIx di t))) (fun _ => rfl)

/-- The number of the own block of pass `p` of direction `di`. -/
def oIx (di : Fin 2) (m : ℕ) : Fin 4 := ⟨(2 * di.val + m / 4) % 4, Nat.mod_lt _ (by decide)⟩
/-- The number of the gathered block `m` of direction `di`. -/
def gIx (di : Fin 2) (m : ℕ) : Fin 12 := ⟨(2 * (3 * (m / 4) + (m % 4 - 1)) + di.val) % 12, Nat.mod_lt _ (by decide)⟩
/-- The result columns that store `m` of direction `di` writes: `m % 4 = 0` the own block, else a gathered one. -/
def oCol (d : Dev nD) (di : Fin 2) (m : ℕ) : Memref sig .tc .hbm S4096x512 .bf16 :=
  if m % 4 = 0 then
    oM.slice (Rect.unit (s := S4096x8192) (k0_off2 d (BitVec.ofNat 32 (2048 * (oIx di m).val))) S4096x512.size (k0_off2_inb d (oIx di m))) (fun _ => rfl)
  else
    oM.slice (Rect.unit (s := S4096x8192) (k0_off3 d (k0_off3_at (gIx di m)).1 (k0_off3_at (gIx di m)).2) S4096x512.size (k0_off3_inb d (gIx di m))) (fun _ => rfl)

theorem exact_sendHalf (di q : Fin 2) : (sendHalf di q).view.WordExact :=
  ((Memref.isWhole_whole cc0_scratch0).wordExact_slice rfl _ (words_sendHalf di q)).reshape _ _
theorem exact_sendWhole (di : Fin 2) : (sendWhole di).view.WordExact :=
  ((Memref.isWhole_whole cc0_scratch0).wordExact_slice rfl _ (words_sendWhole di)).reshape _ _
theorem exact_recvHalf (di s q : Fin 2) : (recvHalf di s q).view.WordExact :=
  ((Memref.isWhole_whole cc0_scratch1).wordExact_slice rfl _ (words_recvHalf di s q)).reshape _ _
theorem exact_recvWhole (di s : Fin 2) : (recvWhole di s).view.WordExact :=
  ((Memref.isWhole_whole cc0_scratch1).wordExact_slice rfl _ (words_recvWhole di s)).reshape _ _
theorem exact_wSlot (di s : Fin 2) : (wSlot di s).view.WordExact :=
  ((Memref.isWhole_whole cc0_scratch2).wordExact_slice rfl _ (words_wSlot di s)).reshape _ _
theorem exact_wCol (d : Dev nD) (di : Fin 2) (t : ℕ) : (wCol d di t).view.WordExact :=
  (Memref.isWhole_whole main_arg1).wordExact_slice rfl _ (k0_off1_wordsbf16 d (fIx di t))
theorem exact_oCol (d : Dev nD) (di : Fin 2) (m : ℕ) : (oCol d di m).view.WordExact := by
  unfold oCol
  split
  · exact (Memref.isWhole_whole main_v1).wordExact_slice rfl _ (k0_off2_wordsbf16 d (oIx di m))
  · exact (Memref.isWhole_whole main_v1).wordExact_slice rfl _ (k0_off3_wordsbf16 d (gIx di m))

/-- Where send `n` of direction `di` reads half `q`: the send buffer, or (a forwarded block) the slot it landed in. -/
def srcHalf (di : Fin 2) (n : ℕ) (q : Fin 2) : Memref sig .tc .vmem S4096x256 .bf16 :=
  if n % 6 < 4 then sendHalf di q else recvHalf di (sl (n - 1)) q
/-- What store `m` of direction `di` reads. -/
def stSrc (di : Fin 2) (m : ℕ) : Memref sig .tc .vmem S4096x512 .bf16 :=
  if m % 4 = 0 then sendWhole di else recvWhole di (sl m)

theorem exact_srcHalf (di : Fin 2) (n : ℕ) (q : Fin 2) : (srcHalf di n q).view.WordExact := by
  unfold srcHalf
  split
  · exact exact_sendHalf di q
  · exact exact_recvHalf di _ q
theorem exact_stSrc (di : Fin 2) (m : ℕ) : (stSrc di m).view.WordExact := by
  unfold stSrc
  split
  · exact exact_sendWhole di
  · exact exact_recvWhole di _

/-! ## Payloads -/

theorem slices_half (q : Fin 2) : S4096x512.Slices ![0, 256 * q.val] S4096x256 :=
  match q with
  | 0 => slices_S4096x512_o0_0_S4096x256
  | 1 => slices_S4096x512_o0_256_S4096x256

/-- The product of the device's columns of `x` with a weight slot, rounded to bf16. -/
def dotPay (x : Vec F S4096x1024 .bf16) (w : Vec F S1x1x1024x512 .bf16) : FVec F S4096x512 .bf16 :=
  truncf .bf16 (matmul dot_S4096x1024_S1024x512_S4096x512_1_0_0_1_n_n none (shapeCast S4096x1024 x shapeCasts_S4096x1024_S4096x1024)
    (shapeCast S1024x512 w shapeCasts_S1x1x1024x512_S1024x512) (constant S4096x512 .f32 0x00000000#32)) bitsLt_bf16_f32

/-- Half `q` of a block. -/
def half (q : Fin 2) (v : FVec F S4096x512 .bf16) : FVec F S4096x256 .bf16 :=
  extractStridedSlice S4096x256 ![0, 256 * q.val] v (slices_half q)

/-- The tanh approximation of gelu on a half block, in f32, rounded to bf16. -/
def geluH (a : FVec F S4096x256 .bf16) : FVec F S4096x256 .bf16 :=
  let e : FVec F S4096x256 .f32 := extf .f32 a bitsLt_bf16_f32
  truncf .bf16 (mulf (mulf (broadcast S4096x256 (Scalar.ofBits .f32 0x3F000000#32)) e)
    (addf (broadcast S4096x256 (Scalar.ofBits .f32 0x3F800000#32))
      (tanh (mulf (broadcast S4096x256 (Scalar.ofBits .f32 0x3F4C422A#32))
        (addf e (mulf (broadcast S4096x256 (Scalar.ofBits .f32 0x3D372713#32)) (mulf (mulf e e) e))))))) bitsLt_bf16_f32

/-- What a reduce step stores: the half of the own product plus the half that landed; after the last step its gelu. -/
def accPay (last : Bool) (q : Fin 2) (dot : FVec F S4096x512 .bf16) (v : Vec F S1x1x4096x256 .bf16) : FVec F S1x4096x256 .bf16 :=
  shapeCast S1x4096x256
    (match last with
     | true => geluH (addf (half q dot) (shapeCast S4096x256 v shapeCasts_S1x1x4096x256_S4096x256))
     | false => addf (half q dot) (shapeCast S4096x256 v shapeCasts_S1x1x4096x256_S4096x256))
    shapeCasts_S4096x256_S1x4096x256

/-! ## Steps -/

def fetchW (d : Dev nD) (di : Fin 2) (t : ℕ) : PG F PUnit :=
  Prog.lift (.enqueueDma (wCol d di t) (.here (wSlot di (sl t))) (.dma (wS di (sl t))) (exact_wCol d di t) (exact_wSlot di (sl t)) ⟨Or.inl rfl, trivial⟩)

def mm (d : Dev nD) (di : Fin 2) (t : ℕ) : PG F (FVec F S4096x512 .bf16) := do
  Prog.lift (.waitDma2 (wS di (sl t)) (wCol d di t) (wSlot di (sl t)) (exact_wCol d di t) (exact_wSlot di (sl t)))
  let x : Vec F S4096x1024 .bf16 ← Prog.lift (.load xM (Rect.unit (s := S4096x1024) ![0, 0] S4096x1024.size inb_S4096x1024_S4096x1024_0_0).toLoadRect (View.loadsAt_vmem h_S4096x1024))
  let w : Vec F S1x1x1024x512 .bf16 ← Prog.lift (.load wsM (rWSlot di (sl t)).toLoadRect (View.loadsAt_vmem h_S1x1x1024x512))
  pure (dotPay x w)

def storeFull (di : Fin 2) (v : FVec F S4096x512 .bf16) : PG F PUnit := do
  let _o : Vec F S1x4096x512 .bf16 ← Prog.lift (.load sM (rSendWhole di).toLoadRect (View.loadsAt_vmem h_S1x4096x512))
  Prog.lift (.store sM (rSendWhole di) (shapeCast S1x4096x512 v shapeCasts_S4096x512_S1x4096x512) Finset.univ
    (View.stores_vmem h_S1x4096x512 ((Memref.isWhole_whole cc0_scratch0).storeExact_slice rfl _ (packed_sendWhole di)) (fun _ => rfl)) (.inl rfl))

def waitSend (di : Fin 2) (n : ℕ) (q : Fin 2) : PG F PUnit :=
  Prog.lift (.waitDma2 (sendS di q) (recvHalf di (sl n) q) (srcHalf di n q) (exact_recvHalf di (sl n) q) (exact_srcHalf di n q))

def waitRecv (di : Fin 2) (k : ℕ) (q : Fin 2) : PG F PUnit :=
  Prog.lift (.waitDma2 (recvS di (sl k) q) (recvHalf di (sl k) q) (recvHalf di (sl k) q) (exact_recvHalf di (sl k) q) (exact_recvHalf di (sl k) q))

def waitStore (d : Dev nD) (di : Fin 2) (m : ℕ) : PG F PUnit :=
  Prog.lift (.waitDma2 (storeS di (sl m)) (stSrc di m) (oCol d di m) (exact_stSrc di m) (exact_oCol d di m))

def startStore (d : Dev nD) (di : Fin 2) (m : ℕ) : PG F PUnit :=
  Prog.lift (.enqueueDma (stSrc di m) (.here (oCol d di m)) (.dma (storeS di (sl m))) (exact_stSrc di m) (exact_oCol d di m) ⟨Or.inl rfl, trivial⟩)

def giveCredit (d : Dev nD) (di : Fin 2) (k : ℕ) : PG F PUnit :=
  if k < 10 then semSignalWord (src di d) (credS di (sl k)) 1#32 else pure ⟨⟩

def takeCredit (di : Fin 2) (n : ℕ) : PG F PUnit :=
  if 2 ≤ n then semWaitWord (credS di (sl n)) 1#32 else pure ⟨⟩

def sendChunk (d : Dev nD) (di : Fin 2) (n : ℕ) (q : Fin 2) : PG F PUnit :=
  Prog.lift (.enqueueDma (srcHalf di n q) (.remote (Dev.tc (dst di d)) (recvHalf di (sl n) q) (.dma (sendS di q))) (.dma (recvS di (sl n) q))
    (exact_srcHalf di n q) (exact_recvHalf di (sl n) q) ⟨⟨rfl, Or.inl rfl⟩, trivial⟩)

def accHalf (di : Fin 2) (last : Bool) (k : ℕ) (q : Fin 2) (dot : FVec F S4096x512 .bf16) : PG F PUnit := do
  let v : Vec F S1x1x4096x256 .bf16 ← Prog.lift (.load rM (rRecvHalf di (sl k) q).toLoadRect (View.loadsAt_vmem h_S1x1x4096x256))
  let _o : Vec F S1x4096x256 .bf16 ← Prog.lift (.load sM (rSendHalf di q).toLoadRect (View.loadsAt_vmem h_S1x4096x256))
  Prog.lift (.store sM (rSendHalf di q) (accPay last q dot v) Finset.univ
    (View.stores_vmem h_S1x4096x256 ((Memref.isWhole_whole cc0_scratch0).storeExact_slice rfl _ (packed_sendHalf di q)) (fun _ => rfl)) (.inl rfl))

/-! ## Stages of one direction -/

/-- The first stage of a pass: the own product goes to the send buffer, whole, and out in two halves. -/
def startA (d : Dev nD) (di : Fin 2) (n : ℕ) (v : FVec F S4096x512 .bf16) : PG F PUnit := do
  storeFull di v
  fetchW d di (4 * (n / 6) + 2)
  takeCredit di n
  sendChunk d di n 0
  sendChunk d di n 1

/-- The sends of reduce stage `n` are over; the slot its landed block was in (if it had one) is given back. -/
def drainR (d : Dev nD) (di : Fin 2) (n : ℕ) : PG F PUnit := do
  waitSend di n 0
  waitSend di n 1
  if n % 6 = 0 then pure ⟨⟩ else giveCredit d di (n - 1)

/-- A reduce step: each half that landed is added to the own product's and sent on. -/
def reduceB (d : Dev nD) (di : Fin 2) (n : ℕ) (dot : FVec F S4096x512 .bf16) : PG F PUnit := do
  waitRecv di (n - 1) 0
  accHalf di (n % 6 == 3) (n - 1) 0 dot
  takeCredit di n
  sendChunk d di n 0
  waitRecv di (n - 1) 1
  accHalf di (n % 6 == 3) (n - 1) 1 dot
  sendChunk d di n 1
  if 4 * (n / 6) + n % 6 + 2 < 8 then fetchW d di (4 * (n / 6) + n % 6 + 2) else pure ⟨⟩
  if n % 6 = 3 then startStore d di (4 * (n / 6)) else pure ⟨⟩

/-- The sends of gather stage `n` (a finished block) and its store are over. -/
def drainG (d : Dev nD) (di : Fin 2) (n m : ℕ) : PG F PUnit := do
  waitSend di n 0
  waitSend di n 1
  if n % 6 = 3 then do
    giveCredit d di (n - 1)
    waitStore d di m
  else do
    waitStore d di m
    giveCredit d di (n - 1)

/-- A gather step: the finished block that landed is sent on and stored. -/
def gatherB (d : Dev nD) (di : Fin 2) (k m : ℕ) : PG F PUnit := do
  waitRecv di k 0
  takeCredit di (k + 1)
  sendChunk d di (k + 1) 0
  waitRecv di k 1
  sendChunk d di (k + 1) 1
  startStore d di m

/-- The last gather step of a pass: the block is stored only. -/
def gatherC (d : Dev nD) (di : Fin 2) (k m : ℕ) : PG F PUnit := do
  waitRecv di k 0
  waitRecv di k 1
  startStore d di m

/-! ## The body -/

def entry (d : Dev nD) : PG F PUnit := do
  semSignalWord (lft d) barS 1#32
  semSignalWord (rgt d) barS 1#32
  semWaitWord barS 2#32

def exit (d : Dev nD) : PG F PUnit := do
  semSignalWord (lft d) endS 1#32
  semSignalWord (rgt d) endS 1#32
  semWaitWord endS 2#32

/-- One reduce stage of both directions: the products first. -/
def reduceStage (d : Dev nD) (n : ℕ) : PG F PUnit := do
  let v0 ← mm d 0 (4 * (n / 6) + n % 6)
  let v1 ← mm d 1 (4 * (n / 6) + n % 6)
  drainR d 0 (n - 1)
  reduceB d 0 n v0
  drainR d 1 (n - 1)
  reduceB d 1 n v1

/-- A gather stage of both directions that forwards. -/
def gatherStage (d : Dev nD) (k m : ℕ) : PG F PUnit := do
  drainG d 0 k (m - 1)
  drainG d 1 k (m - 1)
  gatherB d 0 k m
  gatherB d 1 k m

def pass0 (d : Dev nD) : PG F (FVec F S4096x512 .bf16 × FVec F S4096x512 .bf16) := do
  let v0 ← mm d 0 0
  startA d 0 0 v0
  let v1 ← mm d 1 0
  startA d 1 0 v1
  reduceStage d 1
  reduceStage d 2
  reduceStage d 3
  gatherStage d 3 1
  gatherStage d 4 2
  drainG d 0 5 2
  let w0 ← mm d 0 4
  drainG d 1 5 2
  let w1 ← mm d 1 4
  gatherC d 0 5 3
  gatherC d 1 5 3
  pure (w0, w1)

def pass1 (d : Dev nD) (w0 w1 : FVec F S4096x512 .bf16) : PG F PUnit := do
  waitStore d 0 3
  giveCredit d 0 5
  startA d 0 6 w0
  waitStore d 1 3
  giveCredit d 1 5
  startA d 1 6 w1
  reduceStage d 7
  reduceStage d 8
  reduceStage d 9
  gatherStage d 9 5
  gatherStage d 10 6
  drainG d 0 11 6
  drainG d 1 11 6
  gatherC d 0 11 7
  gatherC d 1 11 7
  waitStore d 0 7
  waitStore d 1 7

def body : PG F PUnit := do
  let d ← Prog.lift .deviceId
  entry d
  fetchW d 0 0
  fetchW d 0 1
  fetchW d 1 0
  fetchW d 1 1
  let w ← pass0 d
  pass1 d w.1 w.2
  exit d

end Cert.RingProof

end
-- ==== Proof.Base.lean ====
/-
# The regions and their contents

The resources are stated by what a view READS: `ow c v q X` is device `c` owning the elements of view `v` at share `q`
and reading `X` through it, `owAny c v` owning them outright at some contents. This module has the share and
half-block lemmas of these, and the values the ring computes.
-/
module

public import proofs.«01_k».proof.Proof.Prog
public import Idealize.ShloMosaic.Lib.Pipeline.TalkSites
public import Idealize.ShloMosaic.Lib.Pipeline.ValueKit.Geometry
public import Idealize.ShloMosaic.Lib.ValueLayout
public import Idealize.ShloMosaic.Lib.Memref

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

/-! ## The resource algebra: the pipeline library's copy and the ring's (two duty names) -/

abbrev UB : Type := URounds (GSem nD τ sig) (Fin 2)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Owning a view -/

section Own
variable {sp : Space} {s : Shape} {e : EltTy}

/-- Device `c` owns the elements of `v` at share `q` and reads `X` through it. -/
def ow (c : Dev nD) (v : Memref sig .tc sp s e) (q : PosShare TreeShare) (X : s.Idx → Elt F e) : sProp 𝕄 :=
  iprop(∃ f : Buf (Elt F) (v.view.loc (c : Thread nD τ)), ⌜v.view.read (Elt F) f = X⌝ ∗ (v.view.loc (c : Thread nD τ) ↦[v.view.set]{q} f))

/-- Device `c` owns the elements of `v`, whatever they hold. -/
def owAny (c : Dev nD) (v : Memref sig .tc sp s e) : sProp 𝕄 := iprop(∃ X : s.Idx → Elt F e, ow c v fullShare X)

instance ow_storable (c : Dev nD) (v : Memref sig .tc sp s e) (q : PosShare TreeShare) (X : s.Idx → Elt F e) :
    BI.Storable (upEmb : UEmb _ 𝕄) (ow c v q X) := by unfold ow; infer_instance
instance owAny_storable (c : Dev nD) (v : Memref sig .tc sp s e) :
    BI.Storable (upEmb : UEmb _ 𝕄) (owAny (F := F) c v) := by unfold owAny; infer_instance

theorem ow_any (c : Dev nD) (v : Memref sig .tc sp s e) (X : s.Idx → Elt F e) : (ow c v fullShare X : sProp 𝕄) ⊢ owAny c v := by
  unfold owAny; iintro H; iexists X; iexact H

/-- Two contents that a view reads alike agree on its elements. -/
theorem agree_of_read (v : Memref sig .tc sp s e) {f g : v.view.ty.Contents (Elt F)} (h : v.view.read (Elt F) f = v.view.read (Elt F) g) :
    ∀ i ∈ v.view.set, f i = g i := by
  intro i hi
  rw [View.set, Finset.mem_map] at hi
  obtain ⟨x, -, rfl⟩ := hi
  have := congrFun h x
  rw [View.read_apply, View.read_apply] at this
  exact (cast_inj _).mp this

/-- Owning a view at what it reads of `g` is its points-to at `g`. -/
theorem ow_eq (c : Dev nD) (v : Memref sig .tc sp s e) (q : PosShare TreeShare) (g : Buf (Elt F) (v.view.loc (c : Thread nD τ))) :
    (ow c v q (v.view.read (Elt F) g) : sProp 𝕄) = (v.view.loc (c : Thread nD τ) ↦[v.view.set]{q} g) := by
  have h1 : (ow c v q (v.view.read (Elt F) g) : sProp 𝕄) ⊢ (v.view.loc (c : Thread nD τ) ↦[v.view.set]{q} g) := by
    unfold ow
    iintro ⟨%f, %hf, H⟩
    iapply (Entails.of_eq (pointsTo_congr (f := f) (g := g) (agree_of_read v hf))); iexact H
  have h2 : (v.view.loc (c : Thread nD τ) ↦[v.view.set]{q} g) ⊢ (ow c v q (v.view.read (Elt F) g) : sProp 𝕄) := by
    unfold ow
    iintro H; iexists g; isplitr
    · ipureintro; rfl
    · iexact H
  exact BI.Entails.antisymm h1 h2

/-- The share of a view splits. -/
theorem ow_split (c : Dev nD) (v : Memref sig .tc sp s e) (q : PosShare TreeShare) (X : s.Idx → Elt F e) :
    (ow c v q X : sProp 𝕄) ⊢ iprop(ow c v q.left X ∗ ow c v q.right X) := by
  unfold ow
  iintro ⟨%f, %hf, H⟩
  ihave H' := (pointsTo_share (PosShare.mem_left_op_right q)).1 $$ H
  icases H' with ⟨H1, H2⟩
  isplitl [H1]
  · iexists f; isplitr
    · ipureintro; exact hf
    · iexact H1
  · iexists f; isplitr
    · ipureintro; exact hf
    · iexact H2

/-- And joins again. -/
theorem ow_join (c : Dev nD) (v : Memref sig .tc sp s e) (q : PosShare TreeShare) (X Y : s.Idx → Elt F e) :
    iprop(ow c v q.left X ∗ ow c v q.right Y) ⊢ (ow c v q X : sProp 𝕄) := by
  unfold ow
  iintro ⟨⟨%f, %hf, H1⟩, ⟨%g, %hg, H2⟩⟩
  ihave %h := (pointsTo_agree (q₁ := q.left) (q₂ := q.right)) $$ [H1 H2]
  · isplitl [H1] <;> iassumption
  iexists f
  isplitr
  · ipureintro; exact hf
  ihave H3 := (Entails.of_eq (pointsTo_congr (f := g) (g := f) fun i hi => (h i (Finset.mem_inter.mpr ⟨hi, hi⟩)).1.symm)) $$ H2
  have hj : iprop((v.view.loc (c : Thread nD τ) ↦[v.view.set]{q.left} f) ∗ (v.view.loc (c : Thread nD τ) ↦[v.view.set]{q.right} f))
      ⊢ (v.view.loc (c : Thread nD τ) ↦[v.view.set]{q} f : sProp 𝕄) := (pointsTo_share (PosShare.mem_left_op_right q)).2
  iapply hj
  isplitl [H1]; · iexact H1
  iexact H3

end Own

/-! ## Halves of the send buffers and of the landing slots -/

/-- The send buffer whose every direction reads `X`. -/
def sBuf (X : FVec F S4096x512 .bf16) : (cc0_scratch0 : Ref sig .tc).ty.Contents (Elt F) :=
  fun i : S2x4096x512.Idx => X (ValueIdx.ix2 (i 1) (i 2))
/-- The landing buffer whose every slot reads `X`. -/
def rBuf (X : FVec F S4096x512 .bf16) : (cc0_scratch1 : Ref sig .tc).ty.Contents (Elt F) :=
  fun i : S2x2x4096x512.Idx => X (ValueIdx.ix2 (i 2) (i 3))

theorem half_apply (q : Fin 2) (X : FVec F S4096x512 .bf16) (j : S4096x256.Idx) (k : S4096x512.Idx) (h0 : (k 0).val = (j 0).val)
    (h1 : (k 1).val = 256 * q.val + (j 1).val) : half q X j = X k :=
  extractStridedSlice_apply _ _ _ _ _ (fun ax => by
    match ax with
    | ⟨0, _⟩ => exact h0.trans (Nat.zero_add _).symm
    | ⟨1, _⟩ => exact h1)

/-- A block viewed through two unit axes, at an index. -/
theorem cast4_apply {n m : ℕ} {α : Type} (x : (⟨4, ![1, 1, n, m]⟩ : Shape).Idx → α) (h : (⟨4, ![1, 1, n, m]⟩ : Shape).ShapeCasts ⟨2, ![n, m]⟩)
    (j : (⟨2, ![n, m]⟩ : Shape).Idx) : shapeCast ⟨2, ![n, m]⟩ x h j = x (ValueIdx.ix4 0 0 (j 0) (j 1)) :=
  shapeCast_apply _ _ _ _ (by rw [Shape.rowMajor_val_four, Shape.rowMajor_val_two]; simp; rfl)
/-- A block viewed through one unit axis, at an index. -/
theorem cast3_apply {n m : ℕ} {α : Type} (x : (⟨3, ![1, n, m]⟩ : Shape).Idx → α) (h : (⟨3, ![1, n, m]⟩ : Shape).ShapeCasts ⟨2, ![n, m]⟩)
    (j : (⟨2, ![n, m]⟩ : Shape).Idx) : shapeCast ⟨2, ![n, m]⟩ x h j = x (ValueIdx.ix3 0 (j 0) (j 1)) :=
  shapeCast_apply _ _ _ _ (by rw [Shape.rowMajor_val_three, Shape.rowMajor_val_two]; simp; rfl)

/-- Indices in a rectangle of stride one. -/
theorem mem_unit {s : Shape} {off size : Fin s.rank → ℕ} {inb : ∀ a, off a + size a ≤ s.size a} {i : s.Idx} :
    i ∈ (Rect.unit off size inb).set ↔ ∀ a, off a ≤ (i a).val ∧ (i a).val < off a + size a := by
  rw [LoadRect.mem_set]
  refine forall_congr' fun a => ⟨?_, ?_⟩
  · rintro ⟨j, hj, h⟩
    have hj' : j < size a := hj
    have h' : (i a).val = off a + 1 * j := h
    omega
  · rintro ⟨h1, h2⟩
    exact ⟨(i a).val - off a, (show _ < size a by omega), (show (i a).val = off a + 1 * ((i a).val - off a) by omega)⟩

theorem read_recvHalf (di s q : Fin 2) (X : FVec F S4096x512 .bf16) : (recvHalf di s q).view.read (Elt F) (rBuf X) = half q X := by
  funext j
  have hb : 256 * q.val + (j 1).val < 512 := by have := q.isLt; have : (j 1).val < 256 := (j 1).isLt; omega
  refine (cast4_apply (fun k => rBuf X ((rRecvHalf di s q).emb k)) shapeCasts_S1x1x4096x256_S4096x256 j).trans ?_
  refine (half_apply q X j _ ?_ ?_).symm
  · show 0 + 1 * (j 0).val = _; omega
  · show 256 * q.val + 1 * (j 1).val = _; omega
theorem read_recvWhole (di s : Fin 2) (X : FVec F S4096x512 .bf16) : (recvWhole di s).view.read (Elt F) (rBuf X) = X := by
  funext j
  refine (cast4_apply (fun k => rBuf X ((rRecvWhole di s).emb k)) (by decide) j).trans ?_
  refine congrArg X (funext fun a => Fin.ext ?_)
  match a with
  | ⟨0, _⟩ => show 0 + 1 * (j 0).val = (j 0).val; omega
  | ⟨1, _⟩ => show 0 + 1 * (j 1).val = (j 1).val; omega
theorem read_sendHalf (di q : Fin 2) (X : FVec F S4096x512 .bf16) : (sendHalf di q).view.read (Elt F) (sBuf X) = half q X := by
  funext j
  refine (cast3_apply (fun k => sBuf X ((rSendHalf di q).emb k)) shapeCasts_S1x4096x256_S4096x256 j).trans ?_
  refine (half_apply q X j _ ?_ ?_).symm
  · show 0 + 1 * (j 0).val = _; omega
  · show 256 * q.val + 1 * (j 1).val = _; omega
theorem read_sendWhole (di : Fin 2) (X : FVec F S4096x512 .bf16) : (sendWhole di).view.read (Elt F) (sBuf X) = X := by
  funext j
  refine (cast3_apply (fun k => sBuf X ((rSendWhole di).emb k)) shapeCasts_S1x4096x512_S4096x512 j).trans ?_
  refine congrArg X (funext fun a => Fin.ext ?_)
  match a with
  | ⟨0, _⟩ => show 0 + 1 * (j 0).val = (j 0).val; omega
  | ⟨1, _⟩ => show 0 + 1 * (j 1).val = (j 1).val; omega

theorem mem_recvHalf (di s q : Fin 2) (i : S2x2x4096x512.Idx) :
    i ∈ (recvHalf di s q).view.set ↔ (i 0).val = di.val ∧ (i 1).val = s.val ∧ 256 * q.val ≤ (i 3).val ∧ (i 3).val < 256 * q.val + 256 := by
  have h2 : (i 2).val < 4096 := (i 2).isLt
  rw [Memref.set_view_squeeze]
  refine (mem_set_slice_whole_iff cc0_scratch1 _ i mem_unit).trans ⟨fun h => ?_, fun h a => ?_⟩
  · have h0 : di.val ≤ (i 0).val ∧ (i 0).val < di.val + 1 := h 0
    have h1 : s.val ≤ (i 1).val ∧ (i 1).val < s.val + 1 := h 1
    have h3 : 256 * q.val ≤ (i 3).val ∧ (i 3).val < 256 * q.val + 256 := h 3
    omega
  · match a with
    | ⟨0, _⟩ => show di.val ≤ (i 0).val ∧ (i 0).val < di.val + 1; omega
    | ⟨1, _⟩ => show s.val ≤ (i 1).val ∧ (i 1).val < s.val + 1; omega
    | ⟨2, _⟩ => show 0 ≤ (i 2).val ∧ (i 2).val < 0 + 4096; omega
    | ⟨3, _⟩ => exact h.2.2
theorem mem_recvWhole (di s : Fin 2) (i : S2x2x4096x512.Idx) :
    i ∈ (recvWhole di s).view.set ↔ (i 0).val = di.val ∧ (i 1).val = s.val := by
  have h2 : (i 2).val < 4096 := (i 2).isLt
  have h3 : (i 3).val < 512 := (i 3).isLt
  rw [Memref.set_view_squeeze]
  refine (mem_set_slice_whole_iff cc0_scratch1 _ i mem_unit).trans ⟨fun h => ?_, fun h a => ?_⟩
  · have h0 : di.val ≤ (i 0).val ∧ (i 0).val < di.val + 1 := h 0
    have h1 : s.val ≤ (i 1).val ∧ (i 1).val < s.val + 1 := h 1
    omega
  · match a with
    | ⟨0, _⟩ => show di.val ≤ (i 0).val ∧ (i 0).val < di.val + 1; omega
    | ⟨1, _⟩ => show s.val ≤ (i 1).val ∧ (i 1).val < s.val + 1; omega
    | ⟨2, _⟩ => show 0 ≤ (i 2).val ∧ (i 2).val < 0 + 4096; omega
    | ⟨3, _⟩ => show 0 ≤ (i 3).val ∧ (i 3).val < 0 + 512; omega
theorem mem_sendHalf (di q : Fin 2) (i : S2x4096x512.Idx) :
    i ∈ (sendHalf di q).view.set ↔ (i 0).val = di.val ∧ 256 * q.val ≤ (i 2).val ∧ (i 2).val < 256 * q.val + 256 := by
  have h1 : (i 1).val < 4096 := (i 1).isLt
  rw [Memref.set_view_squeeze]
  refine (mem_set_slice_whole_iff cc0_scratch0 _ i mem_unit).trans ⟨fun h => ?_, fun h a => ?_⟩
  · have h0 : di.val ≤ (i 0).val ∧ (i 0).val < di.val + 1 := h 0
    have h3 : 256 * q.val ≤ (i 2).val ∧ (i 2).val < 256 * q.val + 256 := h 2
    omega
  · match a with
    | ⟨0, _⟩ => show di.val ≤ (i 0).val ∧ (i 0).val < di.val + 1; omega
    | ⟨1, _⟩ => show 0 ≤ (i 1).val ∧ (i 1).val < 0 + 4096; omega
    | ⟨2, _⟩ => exact h.2
theorem mem_sendWhole (di : Fin 2) (i : S2x4096x512.Idx) : i ∈ (sendWhole di).view.set ↔ (i 0).val = di.val := by
  have h1 : (i 1).val < 4096 := (i 1).isLt
  have h2 : (i 2).val < 512 := (i 2).isLt
  rw [Memref.set_view_squeeze]
  refine (mem_set_slice_whole_iff cc0_scratch0 _ i mem_unit).trans ⟨fun h => ?_, fun h a => ?_⟩
  · have h0 : di.val ≤ (i 0).val ∧ (i 0).val < di.val + 1 := h 0
    omega
  · match a with
    | ⟨0, _⟩ => show di.val ≤ (i 0).val ∧ (i 0).val < di.val + 1; omega
    | ⟨1, _⟩ => show 0 ≤ (i 1).val ∧ (i 1).val < 0 + 4096; omega
    | ⟨2, _⟩ => show 0 ≤ (i 2).val ∧ (i 2).val < 0 + 512; omega

/-- Two views of a buffer that partition a third: owning the third at what it reads of `g` is owning both. -/
theorem part_iff (c : Dev nD) {ℓ : Loc nD τ sig} (A B W : Finset (Idx ℓ)) (q : PosShare TreeShare) (g : Buf (Elt F) ℓ)
    (hd : Disjoint A B) (hu : W = A ∪ B) : (ℓ ↦[W]{q} g : sProp 𝕄) = iprop((ℓ ↦[A]{q} g) ∗ (ℓ ↦[B]{q} g)) := by
  rw [hu]; exact BI.Entails.antisymm (pointsTo_union hd).1 (pointsTo_union hd).2

/-- A landing slot is its two halves. -/
theorem recv_halves (c : Dev nD) (di s : Fin 2) (q : PosShare TreeShare) (X : FVec F S4096x512 .bf16) :
    (ow c (recvWhole di s) q X : sProp 𝕄) = iprop(ow c (recvHalf di s 0) q (half 0 X) ∗ ow c (recvHalf di s 1) q (half 1 X)) := by
  have h (X : FVec F S4096x512 .bf16) : (ow c (recvWhole di s) q ((recvWhole di s).view.read (Elt F) (rBuf X)) : sProp 𝕄)
      = iprop(ow c (recvHalf di s 0) q ((recvHalf di s 0).view.read (Elt F) (rBuf X)) ∗ ow c (recvHalf di s 1) q ((recvHalf di s 1).view.read (Elt F) (rBuf X))) := by
    rw [ow_eq c (recvWhole di s) q (rBuf X), ow_eq c (recvHalf di s 0) q (rBuf X), ow_eq c (recvHalf di s 1) q (rBuf X)]
    refine part_iff (F := F) c (ℓ := rM.view.loc (c : Thread nD τ)) (recvHalf di s 0).view.set (recvHalf di s 1).view.set (recvWhole di s).view.set q (rBuf X) ?_ ?_
    · refine Finset.disjoint_left.mpr fun i h0 h1 => ?_
      have h0 := (mem_recvHalf di s 0 i).mp h0
      have h1 := (mem_recvHalf di s 1 i).mp h1
      simp at h0 h1; omega
    · ext i
      have h3 : ((i : S2x2x4096x512.Idx) 3).val < 512 := ((i : S2x2x4096x512.Idx) 3).isLt
      rw [Finset.mem_union]
      refine (mem_recvWhole di s i).trans (Iff.trans ?_ (or_congr (mem_recvHalf di s 0 i) (mem_recvHalf di s 1 i)).symm)
      simp; omega
  have h' := h X
  rw [read_recvWhole, read_recvHalf, read_recvHalf] at h'
  exact h'

/-- A send buffer is its two halves. -/
theorem send_halves (c : Dev nD) (di : Fin 2) (q : PosShare TreeShare) (X : FVec F S4096x512 .bf16) :
    (ow c (sendWhole di) q X : sProp 𝕄) = iprop(ow c (sendHalf di 0) q (half 0 X) ∗ ow c (sendHalf di 1) q (half 1 X)) := by
  have h (X : FVec F S4096x512 .bf16) : (ow c (sendWhole di) q ((sendWhole di).view.read (Elt F) (sBuf X)) : sProp 𝕄)
      = iprop(ow c (sendHalf di 0) q ((sendHalf di 0).view.read (Elt F) (sBuf X)) ∗ ow c (sendHalf di 1) q ((sendHalf di 1).view.read (Elt F) (sBuf X))) := by
    rw [ow_eq c (sendWhole di) q (sBuf X), ow_eq c (sendHalf di 0) q (sBuf X), ow_eq c (sendHalf di 1) q (sBuf X)]
    refine part_iff (F := F) c (ℓ := sM.view.loc (c : Thread nD τ)) (sendHalf di 0).view.set (sendHalf di 1).view.set (sendWhole di).view.set q (sBuf X) ?_ ?_
    · refine Finset.disjoint_left.mpr fun i h0 h1 => ?_
      have h0 := (mem_sendHalf di 0 i).mp h0
      have h1 := (mem_sendHalf di 1 i).mp h1
      simp at h0 h1; omega
    · ext i
      have h3 : ((i : S2x4096x512.Idx) 2).val < 512 := ((i : S2x4096x512.Idx) 2).isLt
      rw [Finset.mem_union]
      refine (mem_sendWhole di i).trans (Iff.trans ?_ (or_congr (mem_sendHalf di 0 i) (mem_sendHalf di 1 i)).symm)
      simp; omega
  have h' := h X
  rw [read_sendWhole, read_sendHalf, read_sendHalf] at h'
  exact h'

/-- Any two half blocks are the halves of a block. -/
theorem exists_halves (A B : FVec F S4096x256 .bf16) : ∃ X : FVec F S4096x512 .bf16, half 0 X = A ∧ half 1 X = B := by
  refine ⟨fun i : S4096x512.Idx => if h : (i 1).val < 256 then A (ValueIdx.ix2 (i 0) ⟨(i 1).val, h⟩)
    else B (ValueIdx.ix2 (i 0) ⟨(i 1).val - 256, by have : (i 1).val < 512 := (i 1).isLt; omega⟩), ?_, ?_⟩
  · funext j
    have hj : (j 1).val < 256 := (j 1).isLt
    refine (half_apply 0 _ j (ValueIdx.ix2 (j 0) ⟨(j 1).val, by omega⟩) rfl (by simp)).trans ?_
    refine (dif_pos (show (j 1).val < 256 from hj)).trans (congrArg A ?_)
    exact (ValueIdx.eq_ix2 j).symm
  · funext j
    have hj : (j 1).val < 256 := (j 1).isLt
    refine (half_apply 1 _ j (ValueIdx.ix2 (j 0) ⟨256 + (j 1).val, by omega⟩) rfl (by simp)).trans ?_
    refine (dif_neg (show ¬ 256 + (j 1).val < 256 by omega)).trans (congrArg B ?_)
    refine Eq.trans ?_ (ValueIdx.eq_ix2 j).symm
    congr 1
    exact Fin.ext (by simp)

end Cert.RingProof

end
-- ==== Proof.Sched.lean ====
/-
# The protocol: cells, rounds, contents

Every semaphore of the kernel is a cell of the rounds library. For direction `di` of device `c` (neighbour `dst di c`
sends on, `src di c` receives from), send `n` (0..11) goes into landing slot `n % 2` of the neighbour, in two halves `q`:

* the send semaphore `(di, q)`: round `n` hands back the left share of the half that was sent;
* the receive semaphore `(di, s, q)`: round `r` is the landing of send `2 r + s` of the device before: its half of the
  value, and that the sender has reached round `r` of its credit semaphore (so that the slot can be given back);
* the credit semaphore `(di, s)`: round `r` is signalled by the neighbour when it is done with landing `2 r + s`: its
  two half slots, whatever they hold, and that its receive semaphores are at round `r + 1`;
* the barrier semaphore: one round of two duties, `di` signalled by the neighbour `dst di c`, which hands over its landing
  slots of that direction; the second barrier semaphore likewise, handing over nothing;
* the store semaphore `(di, s)`: round `r` is store `2 r + s`: the right share of its source, and the stored columns;
* the weight semaphore `(di, s)`: round `r` is fetch `2 r + s`: the slot holding those columns.

Every payment that another device waits for has an index, its level, growing along the schedule; waits for own copies
have index 0. The values: `val di n c` is what device `c` sends in send `n`.
-/
module

public import proofs.«01_k».proof.Proof.Base

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig ℕ (Elt F) ℕ UU ℕ

variable (m : (ℓ : Loc nD τ sig) → Buf (Elt F) ℓ)

/-! ## Values -/

/-- The device's columns of `x`, as the staging buffer holds them. -/
def xstg (c : Dev nD) : (cc0_stg0_0 : Ref sig .tc).ty.Contents (Elt F) :=
  (win0_0.blk (0 : Fin 1)).view.read (Elt F) (m ((c : Thread nD τ).loc main_arg0))

/-- The weight columns of fetch `t`. -/
def wcol (c : Dev nD) (di : Fin 2) (t : ℕ) : FVec F S1024x512 .bf16 :=
  (wCol c di t).view.read (Elt F) (m ((c : Thread nD τ).loc main_arg1))

/-- The product of the device's columns of `x` with weight columns, rounded to bf16. -/
def dotV (x : Vec F S4096x1024 .bf16) (w : FVec F S1024x512 .bf16) : FVec F S4096x512 .bf16 :=
  truncf .bf16 (matmul dot_S4096x1024_S1024x512_S4096x512_1_0_0_1_n_n none (shapeCast S4096x1024 x shapeCasts_S4096x1024_S4096x1024)
    w (constant S4096x512 .f32 0x00000000#32)) bitsLt_bf16_f32

/-- Device `c`'s product number `t` of direction `di`. -/
def part (di : Fin 2) (t : ℕ) (c : Dev nD) : FVec F S4096x512 .bf16 := dotV (xstg m c) (wcol m c di t)

/-- The tanh approximation of gelu on a block, in f32, rounded to bf16. -/
def geluV (a : FVec F S4096x512 .bf16) : FVec F S4096x512 .bf16 :=
  let e : FVec F S4096x512 .f32 := extf .f32 a bitsLt_bf16_f32
  truncf .bf16 (mulf (mulf (broadcast S4096x512 (Scalar.ofBits .f32 0x3F000000#32)) e)
    (addf (broadcast S4096x512 (Scalar.ofBits .f32 0x3F800000#32))
      (tanh (mulf (broadcast S4096x512 (Scalar.ofBits .f32 0x3F4C422A#32))
        (addf e (mulf (broadcast S4096x512 (Scalar.ofBits .f32 0x3D372713#32)) (mulf (mulf e e) e))))))) bitsLt_bf16_f32

/-- What a reduce step makes of the own product and the block that landed. -/
def accV (last : Bool) (a b : FVec F S4096x512 .bf16) : FVec F S4096x512 .bf16 :=
  match last with
  | true => geluV (addf a b)
  | false => addf a b

/-- What device `c` sends in send `n` of direction `di`: its own product, then the running sums, the finished block, then
    the finished blocks that landed. -/
def val (di : Fin 2) : ℕ → Dev nD → FVec F S4096x512 .bf16
  | 0, c => part m di 0 c
  | n + 1, c =>
    if (n + 1) % 6 = 0 then part m di (4 * ((n + 1) / 6)) c
    else if (n + 1) % 6 < 4 then accV ((n + 1) % 6 == 3) (part m di (4 * ((n + 1) / 6) + (n + 1) % 6) c) (val di n (src di c))
    else val di n (src di c)

/-- The block that store `k` of direction `di` writes. -/
def outV (di : Fin 2) (k : ℕ) (c : Dev nD) : FVec F S4096x512 .bf16 :=
  if k % 4 = 0 then val m di (6 * (k / 4) + 3) c else val m di (6 * (k / 4) + 2 + k % 4) (src di c)

/-! ## Cells -/

abbrev sendC (c : Dev nD) (di q : Fin 2) : GSem nD τ sig := ((c : Thread nD τ), .dma (sendS di q))
abbrev recvC (c : Dev nD) (di s q : Fin 2) : GSem nD τ sig := ((c : Thread nD τ), .dma (recvS di s q))
abbrev storeC (c : Dev nD) (di s : Fin 2) : GSem nD τ sig := ((c : Thread nD τ), .dma (storeS di s))
abbrev wC (c : Dev nD) (di s : Fin 2) : GSem nD τ sig := ((c : Thread nD τ), .dma (wS di s))
abbrev credC (c : Dev nD) (di s : Fin 2) : GSem nD τ sig := ((c : Thread nD τ), .reg (credS di s))
abbrev barC (c : Dev nD) : GSem nD τ sig := ((c : Thread nD τ), .reg barS)
abbrev endC (c : Dev nD) : GSem nD τ sig := ((c : Thread nD τ), .reg endS)

/-- What a semaphore is for. -/
inductive Kind where
  | send (di q : Fin 2) | recv (di s q : Fin 2) | store (di s : Fin 2) | wt (di s : Fin 2) | crd (di s : Fin 2) | bar | fin | other
deriving DecidableEq

/-- The remainder mod two. -/
def bit (n : ℕ) : Fin 2 := ⟨n % 2, Nat.mod_lt _ (by decide)⟩

def kindOf : SemLoc sig → Kind
  | .dma i =>
    if i.val = 0 then .other
    else if i.val < 5 then .send (bit ((i.val - 1) / 2)) (bit (i.val - 1))
    else if i.val < 13 then .recv (bit ((i.val - 5) / 4)) (bit ((i.val - 5) / 2)) (bit (i.val - 5))
    else if i.val < 17 then .store (bit ((i.val - 13) / 2)) (bit (i.val - 13))
    else .wt (bit ((i.val - 17) / 2)) (bit (i.val - 17))
  | .reg i => if i.val < 4 then .crd (bit (i.val / 2)) (bit i.val) else if i.val = 4 then .bar else .fin

theorem kind_send (di q : Fin 2) : kindOf (.dma (sendS di q)) = .send di q := by revert di q; decide
theorem kind_recv (di s q : Fin 2) : kindOf (.dma (recvS di s q)) = .recv di s q := by revert di s q; decide
theorem kind_store (di s : Fin 2) : kindOf (.dma (storeS di s)) = .store di s := by revert di s; decide
theorem kind_w (di s : Fin 2) : kindOf (.dma (wS di s)) = .wt di s := by revert di s; decide
theorem kind_cred (di s : Fin 2) : kindOf (.reg (credS di s)) = .crd di s := by revert di s; decide
theorem kind_bar : kindOf (.reg barS) = .bar := by decide
theorem kind_fin : kindOf (.reg endS) = .fin := by decide

/-! ## Neighbours -/

theorem dst_src (di : Fin 2) (c : Dev nD) : dst di (src di c) = c := by revert di c; decide
theorem src_dst (di : Fin 2) (c : Dev nD) : src di (dst di c) = c := by revert di c; decide

/-! ## The schedule -/

/-- The credit of half a block, of a block stored, of weight columns. -/
def Nh : ℕ := (recvHalf 0 0 0).view.dmaCredit
def No : ℕ := (recvWhole 0 0).view.dmaCredit
def Nw : ℕ := (wSlot 0 0).view.dmaCredit
theorem Nh_pos : 0 < Nh := View.dmaCredit_pos _ (by decide)
theorem No_pos : 0 < No := View.dmaCredit_pos _ (by decide)
theorem Nw_pos : 0 < Nw := View.dmaCredit_pos _ (by decide)

theorem credit_recv (di s q : Fin 2) : (recvHalf di s q).view.dmaCredit = Nh := rfl
theorem credit_src (di : Fin 2) (n : ℕ) (q : Fin 2) : (srcHalf di n q).view.dmaCredit = Nh := by
  unfold srcHalf; split <;> rfl
theorem credit_o (c : Dev nD) (di : Fin 2) (k : ℕ) : (oCol c di k).view.dmaCredit = No := by
  unfold oCol; split <;> rfl
theorem credit_w (di s : Fin 2) : (wSlot di s).view.dmaCredit = Nw := rfl

/-- The rounds and duties of a cell. -/
def dutiesK (k : Kind) (r : ℕ) : Finset (Fin 2) :=
  match k with
  | .send _ _ => if r < 12 then {0} else ∅
  | .recv _ _ _ => if r < 6 then {0} else ∅
  | .store _ _ => if r < 4 then {0} else ∅
  | .wt _ _ => if r < 4 then {0} else ∅
  | .crd _ _ => if r < 5 then {0} else ∅
  | .bar => if r < 1 then Finset.univ else ∅
  | .fin => if r < 1 then Finset.univ else ∅
  | .other => ∅

def amountK (k : Kind) : ℕ :=
  match k with
  | .send _ _ => Nh
  | .recv _ _ _ => Nh
  | .store _ _ => No
  | .wt _ _ => Nw
  | _ => 1

/-- What the landing of send `n` of direction `di` hands device `c`, half `q`. -/
def recvPay (c : Dev nD) (di s q : Fin 2) (n r : ℕ) : sProp 𝕄 :=
  iprop(ow c (recvHalf di s q) fullShare (half q (val m di n (src di c))) ∗ reached ER (credC (src di c) di s) r)
/-- What a credit hands device `c`: the neighbour's landing slot. -/
def credPay (e : Dev nD) (di s : Fin 2) (r : ℕ) : sProp 𝕄 :=
  iprop(owAny e (recvHalf di s 0) ∗ owAny e (recvHalf di s 1) ∗ reached ER (recvC e di s 0) r ∗ reached ER (recvC e di s 1) r)
/-- What store `k` hands back. -/
def storePay (c : Dev nD) (di : Fin 2) (k : ℕ) : sProp 𝕄 :=
  iprop(ow c (stSrc di k) fullShare.right (outV m di k c) ∗ ow c (oCol c di k) fullShare (outV m di k c))
/-- What the neighbour `e` hands over at the barrier. -/
def barPay (e : Dev nD) (di : Fin 2) : sProp 𝕄 :=
  iprop((owAny e (recvHalf di 0 0) ∗ owAny e (recvHalf di 0 1)) ∗ (owAny e (recvHalf di 1 0) ∗ owAny e (recvHalf di 1 1)))

def payloadK (c : Dev nD) (k : Kind) (r : ℕ) (d : Fin 2) : sProp 𝕄 :=
  match k with
  | .send di q => ow c (srcHalf di r q) fullShare.left (half q (val m di r c))
  | .recv di s q => recvPay m c di s q (2 * r + s.val) r
  | .store di s => storePay m c di (2 * r + s.val)
  | .wt di s => ow c (wSlot di s) fullShare (wcol m c di (2 * r + s.val))
  | .crd di s => credPay (dst di c) di s (r + 1)
  | .bar => barPay (dst d c) d
  | .fin => iprop(emp)
  | .other => iprop(emp)

def ringRd : Rounds.Schedule (GSem nD τ sig) (Fin 2) 𝕄 where
  duties g r := dutiesK (kindOf g.2) r
  unitless _ := False
  amount g _ _ := amountK (kindOf g.2)
  payload g r d := payloadK m g.1.1 (kindOf g.2) r d
  amount_pos g _ _ _ := by
    generalize kindOf g.2 = k
    cases k <;> first | exact Nh_pos | exact No_pos | exact Nw_pos | exact Nat.one_pos

instance ringRd_payload_storable (g : GSem nD τ sig) (r : ℕ) (d : Fin 2) :
    BI.Storable (upEmb : UEmb _ 𝕄) ((ringRd (F := F) m).payload g r d) := by
  show BI.Storable upEmb (payloadK m g.1.1 (kindOf g.2) r d)
  generalize kindOf g.2 = k
  cases k <;> (dsimp only [payloadK]; (try unfold recvPay); (try unfold storePay); (try unfold credPay); (try unfold barPay); infer_instance)

section Facts
variable (c : Dev nD) (di s q : Fin 2) (r : ℕ) (d : Fin 2)

theorem duties_eq (g : GSem nD τ sig) : (ringRd (F := F) m).duties g r = dutiesK (kindOf g.2) r := rfl
theorem amount_eq (g : GSem nD τ sig) : (ringRd (F := F) m).amount g r d = amountK (kindOf g.2) := rfl
theorem payload_eq (g : GSem nD τ sig) : (ringRd (F := F) m).payload g r d = payloadK m g.1.1 (kindOf g.2) r d := rfl

/-- The total of a round with the one duty 0. -/
theorem expect_one (g : GSem nD τ sig) (h : dutiesK (kindOf g.2) r = {0}) : (ringRd (F := F) m).expect g r = amountK (kindOf g.2) := by
  unfold Schedule.expect Schedule.amountOf
  rw [duties_eq, h, Finset.sum_singleton]; rfl
/-- All of a round with the one duty 0. -/
theorem rest_one (g : GSem nD τ sig) (h : dutiesK (kindOf g.2) r = {0}) :
    bigSep ((ringRd (F := F) m).duties g r \ ∅) (fun d => (ringRd (F := F) m).payload g r d) = payloadK m g.1.1 (kindOf g.2) r 0 := by
  rw [Finset.sdiff_empty, duties_eq, h, bigSep_singleton]; rfl

theorem expect_two (g : GSem nD τ sig) (h : dutiesK (kindOf g.2) 0 = Finset.univ) (h1 : amountK (kindOf g.2) = 1) : (ringRd (F := F) m).expect g 0 = 2 := by
  unfold Schedule.expect Schedule.amountOf
  rw [duties_eq, h, Finset.sum_congr rfl fun d _ => (amount_eq m 0 d g).trans h1, Finset.sum_const, Finset.card_univ, Fintype.card_fin, smul_eq_mul]
theorem rest_two (g : GSem nD τ sig) (h : dutiesK (kindOf g.2) 0 = Finset.univ) :
    bigSep ((ringRd (F := F) m).duties g 0 \ ∅) (fun d => (ringRd (F := F) m).payload g 0 d)
      = iprop(payloadK m g.1.1 (kindOf g.2) 0 0 ∗ payloadK m g.1.1 (kindOf g.2) 0 1) := by
  rw [Finset.sdiff_empty, duties_eq, h, bigSep_univ_eq_bigSepL [0, 1] (by decide) (by decide), bigSepL_cons_cons, bigSepL_singleton]
  rfl

end Facts

/-! ## Dues and levels -/

/-- The stage that send `n` is started in, and the index of its landing. -/
def stageS (n : ℕ) : ℕ := if n < 6 then n else n + 1
def ixS (di : Fin 2) (n : ℕ) : ℕ := 2 + 4 * stageS n + 2 * di.val + 1
/-- The index of the credit for landing `k`. -/
def ixC (di : Fin 2) (k : ℕ) : ℕ := 2 + 4 * (stageS k + 2) + 2 * di.val

/-- A payment to another device: a barrier signal, half `q` of send `n`, the credit for landing `k`, the last signal. -/
inductive Item where
  | bar (di : Fin 2) | snd (di : Fin 2) (n : ℕ) (q : Fin 2) | crd (di : Fin 2) (k : ℕ) | fin (di : Fin 2)
deriving DecidableEq

namespace Item
/-- Whom device `c` pays. -/
def tgt (c : Dev nD) : Item → Dev nD
  | bar di => src di c
  | snd di _ _ => dst di c
  | crd di _ => src di c
  | fin di => src di c
/-- The semaphore of device `e` that is paid. -/
def cell (e : Dev nD) : Item → GSem nD τ sig
  | bar _ => barC e
  | snd di n q => recvC e di (sl n) q
  | crd di k => credC e di (sl k)
  | fin _ => endC e
def ix : Item → ℕ
  | bar _ => 1
  | snd di n _ => ixS di n
  | crd di k => ixC di k
  | fin _ => 90
def amt : Item → ℕ
  | bar _ => 1
  | snd _ _ _ => Nh
  | crd _ _ => 1
  | fin _ => 1
/-- The payment as addressed to device `e`. -/
def at_ (e : Dev nD) (x : Item) : TalkSites.Pay nD τ sig := (x.cell e, x.ix, x.amt)
/-- The payment as device `c` makes it. -/
def pay (c : Dev nD) (x : Item) : TalkSites.Pay nD τ sig := x.at_ (x.tgt c)
end Item

end Cert.RingProof

end
-- ==== Proof.Steps.lean ====
/-
# The steps of the body under the protocol

One rule for each named step of `Prog`: what it takes, what it hands on. `Ow c l` is device `c` owing the payments `l`,
in the order in which it makes them; `ctx` is the knowledge shared by all devices.
-/
module

public import proofs.«01_k».proof.Proof.Sched

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig ℕ (Elt F) ℕ UU ℕ

variable (m : (ℓ : Loc nD τ sig) → Buf (Elt F) ℓ)

/-! ## Shared knowledge -/

/-- The ring's semaphores. -/
def csem (k : Fin 26) : SemLoc sig :=
  if h : k.val < 20 then .dma ⟨k.val + 1, by show _ < 21; omega⟩ else .reg ⟨k.val - 20, by have := k.isLt; show _ < 6; omega⟩
def idxOf : SemLoc sig → Fin 26
  | .dma i => ⟨(i.val - 1) % 26, Nat.mod_lt _ (by decide)⟩
  | .reg i => ⟨(20 + i.val) % 26, Nat.mod_lt _ (by decide)⟩
theorem idx_csem (k : Fin 26) : idxOf (csem k) = k := by revert k; decide
abbrev kcell (ck : Dev nD × Fin 26) : GSem nD τ sig := ((ck.1 : Thread nD τ), csem ck.2)

/-- A semaphore of the ring. -/
abbrev InRing (sm : SemLoc sig) : Prop := csem (idxOf sm) = sm
theorem in_send (di q : Fin 2) : InRing (.dma (sendS di q)) := by revert di q; decide
theorem in_recv (di s q : Fin 2) : InRing (.dma (recvS di s q)) := by revert di s q; decide
theorem in_store (di s : Fin 2) : InRing (.dma (storeS di s)) := by revert di s; decide
theorem in_w (di s : Fin 2) : InRing (.dma (wS di s)) := by revert di s; decide
theorem in_cred (di s : Fin 2) : InRing (.reg (credS di s)) := by revert di s; decide
theorem in_bar : InRing (.reg barS) := by decide
theorem in_fin : InRing (.reg endS) := by decide

/-- Every cell of the ring under its invariant and past round 0; the levels. -/
def ctx (κ : Dev nD × Fin 26 → ℕ) : sProp 𝕄 :=
  iprop((bigSep Finset.univ fun ck : Dev nD × Fin 26 => cellInv ER (ringRd m) (κ ck) (kcell ck))
    ∗ (bigSep Finset.univ fun ck : Dev nD × Fin 26 => reached ER (kcell ck) 0) ∗ levAts (SiteBlocks.L 100) SiteBlocks.lv)

instance ctx_persistent (κ : Dev nD × Fin 26 → ℕ) : BI.Persistent (ctx m κ) := by unfold ctx; infer_instance

variable (κ : Dev nD × Fin 26 → ℕ)

theorem ctx_inv (c : Dev nD) (sm : SemLoc sig) (h : InRing sm) : ctx m κ ⊢ cellInv ER (ringRd m) (κ (c, idxOf sm)) ((c : Thread nD τ), sm) := by
  have h1 : (bigSep Finset.univ fun ck : Dev nD × Fin 26 => (cellInv ER (ringRd m) (κ ck) (kcell ck) : sProp 𝕄))
      ⊢ cellInv ER (ringRd m) (κ (c, idxOf sm)) (kcell (c, idxOf sm)) := bigSep_elim (Finset.mem_univ (c, idxOf sm))
  rw [show kcell (c, idxOf sm) = ((c : Thread nD τ), sm) from Prod.ext rfl h] at h1
  unfold ctx; iintro ⟨H, -, -⟩; iapply h1; iexact H
theorem ctx_reached (c : Dev nD) (sm : SemLoc sig) (h : InRing sm) : ctx m κ ⊢ reached ER ((c : Thread nD τ), sm) 0 := by
  have h1 : (bigSep Finset.univ fun ck : Dev nD × Fin 26 => (reached ER (kcell ck) 0 : sProp 𝕄))
      ⊢ reached ER (kcell (c, idxOf sm)) 0 := bigSep_elim (Finset.mem_univ (c, idxOf sm))
  rw [show kcell (c, idxOf sm) = ((c : Thread nD τ), sm) from Prod.ext rfl h] at h1
  unfold ctx; iintro ⟨-, H, -⟩; iapply h1; iexact H
theorem ctx_lev : ctx m κ ⊢ levAts (SiteBlocks.L 100) SiteBlocks.lv := by
  unfold ctx; iintro ⟨-, -, H⟩; iexact H

/-! ## Dues -/

/-- The tally of the payments `l` of device `c`. -/
def dues (c : Dev nD) (l : List Item) : CellTallies nD τ sig ℕ := TalkSites.tallyL (l.map (Item.pay c))
theorem dues_cons (c : Dev nD) (x : Item) (l : List Item) : dues c (x :: l) = dues c l + tallyAt (x.cell (x.tgt c)) x.ix x.amt := by
  unfold dues; rw [List.map_cons, TalkSites.tallyL, add_comm]; rfl

/-- Device `c` owes the payments `l`. -/
def Ow (c : Dev nD) (l : List Item) : sProp 𝕄 := iprop(∃ W, owes (c : Thread nD τ) (dues c l) W)

/-- The payments `l` lie above index `b`. -/
abbrev Ok (b : ℕ) (l : List Item) : Prop := ∀ x ∈ l, b < x.ix ∧ x.ix < 100

theorem may (c : Dev nD) (sm : SemLoc sig) (b : ℕ) (hb : b < 100) (l : List Item) (h : Ok b l) :
    ctx m κ ⊢ MayWait (c : Thread nD τ) sm b (dues c l) :=
  (ctx_lev m κ).trans (SiteBlocks.mayWait_of hb c sm _ fun g k hk => by
    obtain ⟨x, hx, rfl, rfl⟩ := TalkSites.tallyL_pos hk
    obtain ⟨y, hy, rfl⟩ := List.mem_map.mp hx
    obtain ⟨h1, h2⟩ := h y hy
    exact ⟨SiteBlocks.mem_L' (by cases y <;> rfl) h2, h1⟩)

abbrev 𝒱₀ : Variants := Variants.none

/-- The weakest precondition of a program on device `c`. -/
abbrev Wp {α : Type} (c : Dev nD) (p : PG F α) (Q : α → sProp 𝕄) : sProp 𝕄 :=
  wp frame (wpE (defs₀ (F := F)) 𝒱₀ (c : Thread nD τ) none) Set.univ p Q

theorem wp_pure {α : Type} (c : Dev nD) (a : α) (Q : α → sProp 𝕄) : Q a ⊢ Wp c (pure a : PG F α) Q := by
  show Q a ⊢ wp frame _ _ (Prog.ret a) Q
  rw [wp_ret]
  exact fupd_intro

/-- A wait on a cell of the ring whose round has the one duty 0. -/
theorem wait_one (c : Dev nD) (sm : SemLoc sig) (hin : InRing sm) (r b N : ℕ) (l : List Item) (hN : amountK (kindOf sm) = N)
    (hd : dutiesK (kindOf sm) r = {0}) (hb : b < 100) (hok : Ok b l) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm N K)
    (Q : PUnit → sProp 𝕄) :
    iprop(ctx m κ ∗ cred (tallyAt ((c : Thread nD τ), sm) b N) ∗ Ow c l ∗ atPos ER ((c : Thread nD τ), sm) r ∅ 0)
      ⊢ iprop(((Ow c l ∗ atPos ER ((c : Thread nD τ), sm) (r + 1) ∅ 0 ∗ reached ER ((c : Thread nD τ), sm) (r + 1) ∗ payloadK m c (kindOf sm) r 0) -∗ Q ⟨⟩)
          -∗ Wp c (Prog.lift w) Q) := by
  unfold Ow
  iintro ⟨#Hx, Hc, ⟨%W, HO⟩, Hp⟩ Hk
  simp only [Prog.lift]
  iapply (Rounds.wp_wait_rest_token 𝒱₀ ER (ringRd m) (c : Thread nD τ) none (κ := κ (c, idxOf sm)) hw (Set.mem_univ _) b (O := dues c l) (W := W)
      (R := r) (m := 0) (T := ∅) (by rw [Nat.zero_add, expect_one m r ((c : Thread nD τ), sm) hd]; exact hN.symm)) $$ [Hc HO Hp]
  · isplitr; · iapply (ctx_inv m κ c sm hin); iexact Hx
    isplitl [Hc]; · iexact Hc
    isplitl [HO]; · iexact HO
    isplitr; · iapply (may m κ c sm b hb l hok); iexact Hx
    iexact Hp
  iintro ⟨HO, Hp, Hr, Hpay⟩
  rw [wp_ret]; imodintro
  iapply Hk
  isplitl [HO]; · iexists _; iexact HO
  isplitl [Hp]; · iexact Hp
  isplitl [Hr]; · iexact Hr
  ihave Hq := (Entails.of_eq (rest_one m r ((c : Thread nD τ), sm) hd)) $$ Hpay
  iexact Hq

/-- A wait for a transfer. -/
theorem wait_dma (c : Dev nD) (sm : DmaSem sig) (hin : InRing (.dma sm)) (r b N : ℕ) (l : List Item) {sp sp' : Space} {s s' : Shape} {e e' : EltTy}
    {src : Memref sig .tc sp' s' e'} {dst : Memref sig .tc sp s e} {hsrc : src.view.WordExact} {hdst : dst.view.WordExact}
    (hcr : dst.view.dmaCredit = N) (hN : amountK (kindOf (.dma sm)) = N)
    (hd : dutiesK (kindOf (.dma sm)) r = {0}) (hb : b < 100) (hok : Ok b l) (Q : PUnit → sProp 𝕄) :
    iprop(ctx m κ ∗ cred (tallyAt ((c : Thread nD τ), .dma sm) b N) ∗ Ow c l ∗ atPos ER ((c : Thread nD τ), .dma sm) r ∅ 0)
      ⊢ iprop(((Ow c l ∗ atPos ER ((c : Thread nD τ), .dma sm) (r + 1) ∅ 0 ∗ reached ER ((c : Thread nD τ), .dma sm) (r + 1)
            ∗ payloadK m c (kindOf (.dma sm)) r 0) -∗ Q ⟨⟩)
          -∗ Wp c (Prog.lift (.waitDma2 sm src dst hsrc hdst)) Q) :=
  wait_one m κ c (.dma sm) hin r b N l hN hd hb hok (fun K => by subst hcr; rfl) Q

/-! ## Payloads and duties by kind -/

section Kinds
variable (c : Dev nD) (di s q : Fin 2) (r : ℕ) (d : Fin 2)
theorem pay_send : payloadK m c (.send di q) r d = ow c (srcHalf di r q) fullShare.left (half q (val m di r c)) := rfl
theorem pay_recv : payloadK m c (.recv di s q) r d = recvPay m c di s q (2 * r + s.val) r := rfl
theorem pay_store : payloadK m c (.store di s) r d = storePay m c di (2 * r + s.val) := rfl
theorem pay_w : payloadK m c (.wt di s) r d = ow c (wSlot di s) fullShare (wcol m c di (2 * r + s.val)) := rfl
theorem pay_cred : payloadK m c (.crd di s) r d = credPay (dst di c) di s (r + 1) := rfl
theorem duty_send (h : r < 12) : dutiesK (.send di q) r = {0} := if_pos h
theorem duty_recv (h : r < 6) : dutiesK (.recv di s q) r = {0} := if_pos h
theorem duty_store (h : r < 4) : dutiesK (.store di s) r = {0} := if_pos h
theorem duty_w (h : r < 4) : dutiesK (.wt di s) r = {0} := if_pos h
theorem duty_cred (h : r < 5) : dutiesK (.crd di s) r = {0} := if_pos h
end Kinds

/-- Elements at contents that read `X` are owned at `X`. -/
theorem ow_intro {sp : Space} {s : Shape} {e : EltTy} {c : Dev nD} {v : Memref sig .tc sp s e} {q : PosShare TreeShare} {X : s.Idx → Elt F e}
    {f : Buf (Elt F) (v.view.loc (c : Thread nD τ))} (h : v.view.read (Elt F) f = X) :
    (v.view.loc (c : Thread nD τ) ↦[v.view.set]{q} f) ⊢ (ow c v q X : sProp 𝕄) := by
  rw [← h, ow_eq]

/-! ## A local copy, a send, a signal -/

section Moves
variable {sp sp' : Space} {s : Shape} {e : EltTy}

/-- A copy on the device itself, that pays duty 0 of round `r` of its own cell. -/
theorem copy_one (c : Dev nD) {src : Memref sig .tc sp s e} {dst : Memref sig .tc sp' s e} {sm : DmaSem sig}
    {hsrc : src.view.WordExact} {hdst : dst.view.WordExact} {hsem : DmaTarget.Typed (nD := nD) (τ := τ) (p := (c : Thread nD τ).2) sp (.dma sm) (.here dst)}
    (hin : InRing (.dma sm)) (r N : ℕ) (hN : dst.view.dmaCredit = N) (hk : amountK (kindOf (.dma sm)) = N)
    (hd : (0 : Fin 2) ∈ dutiesK (kindOf (.dma sm)) r) {q : PosShare TreeShare} {X : s.Idx → Elt F e}
    (hpay : iprop(ow c dst fullShare X ∗ ow c src q X) ⊢ payloadK m c (kindOf (.dma sm)) r 0) (Q : PUnit → sProp 𝕄) :
    iprop(ctx m κ ∗ ow c src q X ∗ owAny c dst ∗ dutyTok ER ((c : Thread nD τ), .dma sm) r 0 ∗ reached ER ((c : Thread nD τ), .dma sm) r)
      ⊢ iprop((cred (tallyAt ((c : Thread nD τ), .dma sm) 0 N) -∗ Q ⟨⟩)
          -∗ Wp c (Prog.lift (.enqueueDma src (.here dst) (.dma sm) hsrc hdst hsem)) Q) := by
  unfold owAny
  iintro ⟨#Hx, Hs, ⟨%Y, Hd⟩, Ht, Hr⟩ Hk
  unfold ow
  icases Hs with ⟨%f, %hf, Hs⟩
  icases Hd with ⟨%g, -, Hd⟩
  simp only [Prog.lift]
  iapply (Rounds.wp_copy_pointsTo 𝒱₀ ER (ringRd m) (c : Thread nD τ) none (src := src) (dst := dst) (sem := .dma sm) (r := r) (d := 0)
      (κ := κ (c, idxOf (.dma sm))) (q := q) (fs := f) (fd := g) hd 0 N hN hk
      ((BIClass.sep_mono (ow_intro (by rw [View.read_write_univ]; exact hf)) (ow_intro hf)).trans hpay)) $$ [Hs Hd Ht Hr]
  · isplitr; · iapply (ctx_inv m κ c _ hin); iexact Hx
    isplitl [Hs]; · iexact Hs
    isplitl [Hd]; · iexact Hd
    isplitl [Ht]; · iexact Ht
    iexact Hr
  iintro Hc
  rw [wp_ret]; imodintro
  iapply Hk; iexact Hc

/-- A signal to a cell of device `n` that pays duty `d` of round `r`. -/
theorem signal_one (c n : Dev nD) (sm : Sem sig) (hin : InRing (.reg sm)) (r b : ℕ) (d : Fin 2) (hk : amountK (kindOf (.reg sm)) = 1)
    (hd : d ∈ dutiesK (kindOf (.reg sm)) r) (x : Item) (l : List Item) (htgt : x.tgt c = n) (hcell : x.cell n = ((n : Thread nD τ), .reg sm))
    (hix : x.ix = b) (hamt : x.amt = 1) (Q : PUnit → sProp 𝕄) :
    iprop(ctx m κ ∗ Ow c (x :: l) ∗ dutyTok ER ((n : Thread nD τ), .reg sm) r d ∗ payloadK m n (kindOf (.reg sm)) r d
        ∗ reached ER ((n : Thread nD τ), .reg sm) r)
      ⊢ iprop((Ow c l -∗ Q ⟨⟩) -∗ Wp c (semSignalWord n sm 1#32) Q) := by
  unfold Ow
  iintro ⟨#Hx, ⟨%W, HO⟩, Ht, Hp, Hr⟩ Hk
  simp only [semSignalWord, Prog.lift]
  iapply (Rounds.wp_signal 𝒱₀ ER (ringRd m) (c : Thread nD τ) none (dst := (n : Thread nD τ)) (sem := sm) (r := r) (d := d) (k' := 1)
      (κ := κ (n, idxOf (.reg sm))) hd hk b (O₀ := dues c (x :: l)) (dues c l)
      (by rw [dues_cons, htgt, hcell, hix, hamt])) $$ [HO Ht Hp Hr]
  · isplitr; · iapply (ctx_inv m κ n _ hin); iexact Hx
    isplitl [HO]; · iexact HO
    isplitl [Ht]; · iexact Ht
    isplitl [Hp]; · rw [payload_eq]; iexact Hp
    iexact Hr
  iintro HO
  rw [wp_ret]; imodintro
  iapply Hk; iexists _; iexact HO

end Moves

/-! ## What a device holds, cell by cell -/

section Parts
variable (c : Dev nD) (di : Fin 2)

/-- Send cell `q` between sends, before send `n`. -/
def SendPos (n : ℕ) (q : Fin 2) : sProp 𝕄 := iprop(atPos ER (sendC c di q) n ∅ 0 ∗ reached ER (sendC c di q) n)
/-- Send cell `q` while send `n` is under way. -/
def SendBusy (n : ℕ) (q : Fin 2) : sProp 𝕄 := iprop(atPos ER (sendC c di q) n ∅ 0 ∗ cred (tallyAt (sendC c di q) 0 Nh))
/-- What send `n` needs of the schedule. -/
def tSend (n : ℕ) (q : Fin 2) : sProp 𝕄 := iprop(dutyTok ER (sendC c di q) n 0 ∗ dutyTok ER (recvC (dst di c) di (sl n) q) (n / 2) 0)
/-- The cell of landing `k`, before it. -/
def RecvPos (k : ℕ) (q : Fin 2) : sProp 𝕄 := atPos ER (recvC c di (sl k) q) (k / 2) ∅ 0
def tRecv (k : ℕ) (q : Fin 2) : sProp 𝕄 := cred (tallyAt (recvC c di (sl k) q) (ixS di k) Nh)
/-- Landing `k` is over, so its slot can be given back. -/
def Got (k : ℕ) (q : Fin 2) : sProp 𝕄 :=
  iprop(reached ER (credC (src di c) di (sl k)) (k / 2) ∗ reached ER (recvC c di (sl k) q) (k / 2 + 1))
instance (k : ℕ) (q : Fin 2) : BI.Persistent (Got (F := F) c di k q) := by unfold Got; infer_instance
/-- The slot of landing `k`, and it is over. -/
def Landed (k : ℕ) : sProp 𝕄 :=
  iprop((owAny c (recvHalf di (sl k) 0) ∗ owAny c (recvHalf di (sl k) 1)) ∗ Got c di k 0 ∗ Got c di k 1)
def tCrd (k : ℕ) : sProp 𝕄 := dutyTok ER (credC (src di c) di (sl k)) (k / 2) 0
/-- The neighbour's slot for send `n`. -/
def Slot (n : ℕ) : sProp 𝕄 :=
  iprop(owAny (dst di c) (recvHalf di (sl n) 0) ∗ owAny (dst di c) (recvHalf di (sl n) 1)
    ∗ reached ER (recvC (dst di c) di (sl n) 0) (n / 2) ∗ reached ER (recvC (dst di c) di (sl n) 1) (n / 2)
    ∗ reached ER (credC c di (sl n)) (n / 2))
/-- The credit cell that send `n` waits on, before it. -/
def CredPos (n : ℕ) : sProp 𝕄 := atPos ER (credC c di (sl n)) ((n - 2) / 2) ∅ 0
/-- What send `n` has of its slot beforehand: the slot itself, or the promise of the credit. -/
def Pre (n : ℕ) : sProp 𝕄 := if n < 2 then Slot c di n else cred (tallyAt (credC c di (sl n)) (ixC di (n - 2)) 1)
/-- A weight slot free for fetch `t`. -/
def WFree (t : ℕ) : sProp 𝕄 := iprop((atPos ER (wC c di (sl t)) (t / 2) ∅ 0 ∗ reached ER (wC c di (sl t)) (t / 2)) ∗ owAny c (wSlot di (sl t)))
def tW (t : ℕ) : sProp 𝕄 := iprop(dutyTok ER (wC c di (sl t)) (t / 2) 0 ∗ ∃ q, ow c (wCol c di t) q (wcol m c di t))
def WBusy (t : ℕ) : sProp 𝕄 := iprop(atPos ER (wC c di (sl t)) (t / 2) ∅ 0 ∗ cred (tallyAt (wC c di (sl t)) 0 Nw))
/-- The cell of store `k`, before it. -/
def StFree (k : ℕ) : sProp 𝕄 := iprop(atPos ER (storeC c di (sl k)) (k / 2) ∅ 0 ∗ reached ER (storeC c di (sl k)) (k / 2))
def tSt (k : ℕ) : sProp 𝕄 := iprop(dutyTok ER (storeC c di (sl k)) (k / 2) 0 ∗ owAny c (oCol c di k))
def StBusy (k : ℕ) : sProp 𝕄 := iprop(atPos ER (storeC c di (sl k)) (k / 2) ∅ 0 ∗ cred (tallyAt (storeC c di (sl k)) 0 No))
/-- The columns that store `k` writes, written. -/
def Out (k : ℕ) : sProp 𝕄 := ow c (oCol c di k) fullShare (outV m di k c)
/-- The device's columns of `x`, staged. -/
def Xst : sProp 𝕄 := ((c : Thread nD τ).loc cc0_stg0_0 ↦[Finset.univ]{fullShare} (xstg m c))

end Parts

theorem sl_add (n : ℕ) : sl (n + 2) = sl n := by unfold sl; congr 1; omega
theorem div_add (n : ℕ) : (n + 2) / 2 = n / 2 + 1 := by omega
theorem sl_split (n : ℕ) : 2 * (n / 2) + (sl n).val = n := by show 2 * (n / 2) + n % 2 = n; omega

section Rules
variable (c : Dev nD) (di : Fin 2) (l : List Item)

theorem wp_waitSend (n : ℕ) (q : Fin 2) (hn : n < 12) (hok : Ok 0 l) (Q : PUnit → sProp 𝕄) :
    iprop(ctx m κ ∗ SendBusy c di n q ∗ Ow c l)
      ⊢ iprop(((SendPos c di (n + 1) q ∗ ow c (srcHalf di n q) fullShare.left (half q (val m di n c)) ∗ Ow c l) -∗ Q ⟨⟩)
          -∗ Wp c (waitSend di n q) Q) := by
  unfold SendBusy SendPos waitSend
  iintro ⟨#Hx, ⟨Hp, Hc⟩, HO⟩ Hk
  iapply (wait_dma m κ c (sendS di q) (in_send di q) n 0 Nh l (credit_src di n q) (by rw [kind_send]; rfl) (by rw [kind_send]; exact if_pos hn) (by decide) hok _) $$ [Hp Hc HO]
  · isplitr; · iexact Hx
    isplitl [Hc]; · iexact Hc
    isplitl [HO]; · iexact HO
    iexact Hp
  rw [kind_send, pay_send]
  iintro ⟨HO, Hp, Hr, Hpay⟩
  iapply Hk
  isplitl [Hp Hr]; · isplitl [Hp] <;> iassumption
  isplitl [Hpay]; · iexact Hpay
  iexact HO

theorem wp_waitRecv (k : ℕ) (q : Fin 2) (hk : k < 12) (hok : Ok (ixS di k) l) (Q : PUnit → sProp 𝕄) :
    iprop(ctx m κ ∗ RecvPos c di k q ∗ tRecv c di k q ∗ Ow c l)
      ⊢ iprop(((RecvPos c di (k + 2) q ∗ ow c (recvHalf di (sl k) q) fullShare (half q (val m di k (src di c))) ∗ Got c di k q ∗ Ow c l) -∗ Q ⟨⟩)
          -∗ Wp c (waitRecv di k q) Q) := by
  unfold RecvPos tRecv waitRecv Got
  iintro ⟨#Hx, Hp, Hc, HO⟩ Hk
  iapply (wait_dma m κ c (recvS di (sl k) q) (in_recv di _ q) (k / 2) (ixS di k) Nh l (credit_recv di (sl k) q) (by rw [kind_recv]; rfl)
      (by rw [kind_recv]; exact if_pos (by omega)) (by unfold ixS stageS; have := di.isLt; split <;> omega) hok _) $$ [Hp Hc HO]
  · isplitr; · iexact Hx
    isplitl [Hc]; · iexact Hc
    isplitl [HO]; · iexact HO
    iexact Hp
  rw [kind_recv, sl_add, div_add, pay_recv]; unfold recvPay; rw [sl_split]
  iintro ⟨HO, Hp, Hr, Hpay, Hg⟩
  iapply Hk
  isplitl [Hp]; · iexact Hp
  isplitl [Hpay]; · iexact Hpay
  isplitl [Hr Hg]; · isplitl [Hg] <;> iassumption
  iexact HO

theorem wp_giveCredit (k : ℕ) (hk : k < 10) (Q : PUnit → sProp 𝕄) :
    iprop(ctx m κ ∗ Landed c di k ∗ tCrd c di k ∗ Ow c (.crd di k :: l)) ⊢ iprop((Ow c l -∗ Q ⟨⟩) -∗ Wp c (giveCredit c di k) Q) := by
  unfold Landed tCrd giveCredit Got
  rw [if_pos hk]
  iintro ⟨#Hx, ⟨⟨Hs0, Hs1⟩, ⟨Hc, Hr0⟩, -, Hr1⟩, Ht, HO⟩ Hk
  iapply (signal_one m κ c (src di c) (credS di (sl k)) (in_cred di _) (k / 2) (ixC di k) 0 (by rw [kind_cred]; rfl)
      (by rw [kind_cred]; rw [duty_cred _ _ _ (by omega)]; exact Finset.mem_singleton_self _) (.crd di k) l rfl rfl rfl rfl _)
      $$ [Hs0 Hs1 Hc Hr0 Hr1 Ht HO]
  · isplitr; · iexact Hx
    isplitl [HO]; · iexact HO
    isplitl [Ht]; · iexact Ht
    isplitl [Hs0 Hs1 Hr0 Hr1]
    · rw [kind_cred]; rw [pay_cred]; unfold credPay; rw [dst_src]
      isplitl [Hs0]; · iexact Hs0
      isplitl [Hs1]; · iexact Hs1
      isplitl [Hr0] <;> iassumption
    iexact Hc
  iintro HO; iapply Hk; iexact HO

theorem wp_takeCredit (n : ℕ) (hn : n < 12) (hok : 2 ≤ n → Ok (ixC di (n - 2)) l) (Q : PUnit → sProp 𝕄) :
    iprop(ctx m κ ∗ CredPos c di n ∗ Pre c di n ∗ Ow c l)
      ⊢ iprop(((CredPos c di (n + 2) ∗ Slot c di n ∗ Ow c l) -∗ Q ⟨⟩) -∗ Wp c (takeCredit di n) Q) := by
  unfold CredPos Pre takeCredit
  by_cases h : n < 2
  · rw [if_pos h, if_neg (by omega), sl_add, show (n + 2 - 2) / 2 = (n - 2) / 2 by omega]
    iintro ⟨#Hx, Hp, Hs, HO⟩ Hk
    iapply (wp_pure c ⟨⟩ Q)
    iapply Hk
    isplitl [Hp]; · iexact Hp
    isplitl [Hs]; · iexact Hs
    iexact HO
  · rw [if_neg h, if_pos (by omega), sl_add, show (n + 2 - 2) / 2 = (n - 2) / 2 + 1 by omega]
    iintro ⟨#Hx, Hp, Hc, HO⟩ Hk
    iapply (wait_one m κ c (.reg (credS di (sl n))) (in_cred di _) ((n - 2) / 2) (ixC di (n - 2)) 1 l (by rw [kind_cred]; rfl)
        (by rw [kind_cred]; exact if_pos (by omega)) (by unfold ixC stageS; have := di.isLt; split <;> omega) (hok (by omega))
        (wpE_semWait_eq 𝒱₀ (c : Thread nD τ) none Set.univ) _) $$ [Hp Hc HO]
    · isplitr; · iexact Hx
      isplitl [Hc]; · iexact Hc
      isplitl [HO]; · iexact HO
      iexact Hp
    rw [kind_cred]
    rw [pay_cred]; unfold credPay Slot
    rw [show (n - 2) / 2 + 1 = n / 2 by omega]
    iintro ⟨HO, Hp, Hr, H0, H1, Hr0, Hr1⟩
    iapply Hk
    isplitl [Hp]; · iexact Hp
    isplitr [HO]
    · isplitl [H0]; · iexact H0
      isplitl [H1]; · iexact H1
      isplitl [Hr0]; · iexact Hr0
      isplitl [Hr1] <;> iassumption
    iexact HO

theorem wp_fetchW (t : ℕ) (ht : t < 8) (Q : PUnit → sProp 𝕄) :
    iprop(ctx m κ ∗ WFree c di t ∗ tW m c di t) ⊢ iprop((WBusy c di t -∗ Q ⟨⟩) -∗ Wp c (fetchW c di t) Q) := by
  unfold WFree tW WBusy fetchW
  iintro ⟨#Hx, ⟨⟨Hp, Hr⟩, Hs⟩, Ht, ⟨%q, Hw⟩⟩ Hk
  iapply (copy_one m κ c (in_w di (sl t)) (t / 2) Nw (credit_w di (sl t)) (by rw [kind_w]; rfl)
      (by rw [kind_w]; rw [duty_w _ _ _ (by omega)]; exact Finset.mem_singleton_self _)
      (q := q) (X := wcol m c di t) (by rw [kind_w]; rw [pay_w, sl_split]; iintro ⟨H, -⟩; iexact H) _) $$ [Hr Hs Ht Hw]
  · isplitr; · iexact Hx
    isplitl [Hw]; · iexact Hw
    isplitl [Hs]; · iexact Hs
    isplitl [Ht] <;> iassumption
  iintro Hc; iapply Hk
  isplitl [Hp] <;> iassumption

theorem wp_startStore (k : ℕ) (hk : k < 8) (Q : PUnit → sProp 𝕄) :
    iprop(ctx m κ ∗ StFree c di k ∗ tSt c di k ∗ ow c (stSrc di k) fullShare.right (outV m di k c))
      ⊢ iprop((StBusy c di k -∗ Q ⟨⟩) -∗ Wp c (startStore c di k) Q) := by
  unfold StFree tSt StBusy startStore
  iintro ⟨#Hx, ⟨Hp, Hr⟩, ⟨Ht, Hd⟩, Hs⟩ Hk
  iapply (copy_one m κ c (in_store di (sl k)) (k / 2) No (credit_o c di k) (by rw [kind_store]; rfl)
      (by rw [kind_store]; rw [duty_store _ _ _ (by omega)]; exact Finset.mem_singleton_self _)
      (q := fullShare.right) (X := outV m di k c)
      (by rw [kind_store]; rw [pay_store]; unfold storePay; rw [sl_split]; iintro ⟨H1, H2⟩; isplitl [H2] <;> iassumption) _) $$ [Hr Hs Ht Hd]
  · isplitr; · iexact Hx
    isplitl [Hs]; · iexact Hs
    isplitl [Hd]; · iexact Hd
    isplitl [Ht] <;> iassumption
  iintro Hc; iapply Hk
  isplitl [Hp] <;> iassumption

theorem wp_waitStore (k : ℕ) (hk : k < 8) (hok : Ok 0 l) (Q : PUnit → sProp 𝕄) :
    iprop(ctx m κ ∗ StBusy c di k ∗ Ow c l)
      ⊢ iprop(((StFree c di (k + 2) ∗ ow c (stSrc di k) fullShare.right (outV m di k c) ∗ Out m c di k ∗ Ow c l) -∗ Q ⟨⟩)
          -∗ Wp c (waitStore c di k) Q) := by
  unfold StBusy StFree waitStore Out
  iintro ⟨#Hx, ⟨Hp, Hc⟩, HO⟩ Hk
  iapply (wait_dma m κ c (storeS di (sl k)) (in_store di _) (k / 2) 0 No l (credit_o c di k) (by rw [kind_store]; rfl)
      (by rw [kind_store]; exact if_pos (by omega)) (by decide) hok _) $$ [Hp Hc HO]
  · isplitr; · iexact Hx
    isplitl [Hc]; · iexact Hc
    isplitl [HO]; · iexact HO
    iexact Hp
  rw [kind_store, sl_add, div_add]
  rw [pay_store]; unfold storePay; rw [sl_split]
  iintro ⟨HO, Hp, Hr, H1, H2⟩
  iapply Hk
  isplitl [Hp Hr]; · isplitl [Hp] <;> iassumption
  isplitl [H1]; · iexact H1
  isplitl [H2] <;> iassumption

theorem wp_sendChunk (n : ℕ) (q : Fin 2) (hn : n < 12) (Q : PUnit → sProp 𝕄) :
    iprop(ctx m κ ∗ SendPos c di n q ∗ tSend c di n q ∗ ow c (srcHalf di n q) fullShare.left (half q (val m di n c))
        ∗ owAny (dst di c) (recvHalf di (sl n) q) ∗ (reached ER (recvC (dst di c) di (sl n) q) (n / 2) ∗ reached ER (credC c di (sl n)) (n / 2))
        ∗ Ow c (.snd di n q :: l))
      ⊢ iprop(((SendBusy c di n q ∗ Ow c l) -∗ Q ⟨⟩) -∗ Wp c (sendChunk c di n q) Q) := by
  have hps : (ow c (srcHalf di n q) fullShare.left (half q (val m di n c)) : sProp 𝕄) ⊢ payloadK m c (kindOf (.dma (sendS di q))) n 0 := by
    rw [kind_send, pay_send]
  have hpr : iprop(ow (dst di c) (recvHalf di (sl n) q) fullShare (half q (val m di n c)) ∗ reached ER (credC c di (sl n)) (n / 2))
      ⊢ payloadK m (dst di c) (kindOf (.dma (recvS di (sl n) q))) (n / 2) 0 := by
    rw [kind_recv]; rw [pay_recv]; unfold recvPay; rw [src_dst, sl_split]
  unfold SendPos tSend SendBusy sendChunk Ow owAny
  iintro ⟨#Hx, ⟨Hp, Hr⟩, ⟨Ht, Ht'⟩, Hs, ⟨%Y, Hd⟩, ⟨Hr', Hg⟩, ⟨%W, HO⟩⟩ Hk
  unfold ow
  icases Hs with ⟨%f, %hf, Hs⟩
  icases Hd with ⟨%g, -, Hd⟩
  simp only [Prog.lift]
  iapply (Rounds.wp_send_pointsTo_with 𝒱₀ ER (ringRd m) (c : Thread nD τ) none (c' := (dst di c : Thread nD τ)) (src := srcHalf di n q)
      (dst := recvHalf di (sl n) q) (sS := .dma (sendS di q)) (sem := .dma (recvS di (sl n) q)) (r₁ := n) (r₂ := n / 2) (d₁ := 0) (d₂ := 0)
      (κ₁ := κ (c, idxOf (.dma (sendS di q)))) (κ₂ := κ (dst di c, idxOf (.dma (recvS di (sl n) q))))
      (q := fullShare.left) (fs := f) (fd := g) (F := reached ER (credC c di (sl n)) (n / 2))
      (by rw [duties_eq, kind_send]; rw [duty_send _ _ _ hn]; exact Finset.mem_singleton_self _)
      (by rw [duties_eq, kind_recv]; rw [duty_recv _ _ _ _ (by omega)]; exact Finset.mem_singleton_self _)
      (ixS di n) 0 Nh (credit_recv di (sl n) q) (by rw [amount_eq, kind_send]; rfl) (by rw [amount_eq, kind_recv]; rfl)
      (O₀ := dues c (.snd di n q :: l)) (dues c l) (dues_cons c _ l)
      ((ow_intro hf).trans hps) ((sep_mono_left (ow_intro (by rw [View.read_write_univ]; exact hf))).trans hpr)) $$ [Hr Ht Ht' Hs Hd Hr' Hg HO]
  · isplitr; · iapply (ctx_inv m κ c _ (in_send di q)); iexact Hx
    isplitr; · iapply (ctx_inv m κ (dst di c) _ (in_recv di (sl n) q)); iexact Hx
    isplitl [Hs]; · iexact Hs
    isplitl [Hd Hg]; · isplitl [Hd] <;> iassumption
    isplitl [HO]; · iexact HO
    isplitl [Ht]; · iexact Ht
    isplitl [Hr]; · iexact Hr
    isplitl [Ht'] <;> iassumption
  iintro ⟨Hc, HO⟩
  rw [wp_ret]; imodintro
  iapply Hk
  isplitl [Hp Hc]; · isplitl [Hp] <;> iassumption
  iexists _; iexact HO

end Rules

/-! ## Loads and stores -/

section Local
variable {sp : CoreSpace} {s s' : Shape} {e : EltTy}

/-- A load of a rectangle through whose squeezed view the device reads `X`. -/
theorem load_sq (c : Dev nD) {M : Memref sig .tc sp s e} {r : Rect s} {hr : ∀ a, r.stride a = 1} {hq : r.shape.Squeezes s'}
    (hc : r.shape.ShapeCasts s') {hl : M.view.LoadsAt r.toLoadRect} {q : PosShare TreeShare} {X : s'.Idx → Elt F e}
    (Q : (r.shape.Idx → Elt F e) → sProp 𝕄) :
    ow c ((M.slice r hr).squeeze s' hq) q X
      ⊢ iprop((∀ v, ⌜shapeCast s' v hc = X⌝ -∗ ow c ((M.slice r hr).squeeze s' hq) q X -∗ Q v)
          -∗ Wp c (Prog.lift (.load M r.toLoadRect hl)) Q) := by
  unfold ow
  iintro ⟨%f, %hf, H⟩ Hk
  simp only [Prog.lift]
  iapply (wp_load_rect 𝒱₀ (c : Thread nD τ) none Set.univ (m := M) (r := r) (q := q) (f := f)
    (S := ((M.slice r hr).squeeze s' hq).view.set) (by rw [Memref.set_view_squeeze])) $$ [H]
  · iexact H
  iintro H
  rw [wp_ret]; imodintro
  iapply Hk $$ [] [H]
  · ipureintro; exact hf
  · iexists f; isplitr
    · ipureintro; exact hf
    · iexact H

/-- A store to a rectangle that the device owns through its squeezed view. -/
theorem store_sq (c : Dev nD) {M : Memref sig .tc sp s e} {r : Rect s} {hr : ∀ a, r.stride a = 1} {hq : r.shape.Squeezes s'}
    (hc : r.shape.ShapeCasts s') {w : r.shape.Idx → Elt F e} {hx : (M.access r).Stores Finset.univ}
    {hm : Finset.univ = Finset.univ ∨ ∀ a, r.stride a = 1} {X : s'.Idx → Elt F e} (hw : shapeCast s' w hc = X)
    (Q : PUnit → sProp 𝕄) :
    owAny c ((M.slice r hr).squeeze s' hq)
      ⊢ iprop((ow c ((M.slice r hr).squeeze s' hq) fullShare X -∗ Q ⟨⟩) -∗ Wp c (Prog.lift (.store M r w Finset.univ hx hm)) Q) := by
  unfold owAny ow
  iintro ⟨%Y, %f, -, H⟩ Hk
  simp only [Prog.lift]
  iapply (wp_store 𝒱₀ (c : Thread nD τ) none Set.univ (m := M) (r := r) (w := w) (Mk := Finset.univ) (f := f)
    (S := ((M.slice r hr).squeeze s' hq).view.set) (by rw [Memref.set_view_squeeze]; exact subset_rfl)) $$ [H]
  · iexact H
  iintro H
  rw [wp_ret]; imodintro
  iapply Hk
  iexists _; isplitr
  swap
  · iexact H
  · ipureintro
    refine Eq.trans ?_ hw
    exact congrArg (fun z => shapeCast s' z hc) (View.read_write_univ _ _)

end Local

theorem casts_whole : S1x4096x512.ShapeCasts S4096x512 := by decide
theorem casts_half : S1x4096x256.ShapeCasts S4096x256 := by decide
theorem hz2 : (![0, 0] : Fin 2 → ℕ) = fun _ => 0 := by funext a; revert a; decide

section Rules
variable (c : Dev nD) (di : Fin 2) (l : List Item)

theorem wp_mm (t : ℕ) (ht : t < 8) (hok : Ok 0 l) (Q : FVec F S4096x512 .bf16 → sProp 𝕄) :
    iprop(ctx m κ ∗ WBusy c di t ∗ Xst m c ∗ Ow c l)
      ⊢ iprop(((WFree c di (t + 2) ∗ Xst m c ∗ Ow c l) -∗ Q (part m di t c)) -∗ Wp c (mm c di t) Q) := by
  unfold WBusy WFree mm Xst
  simp only [wp_bind]
  iintro ⟨#Hx, ⟨Hp, Hc⟩, HX, HO⟩ Hk
  iapply (wait_dma m κ c (wS di (sl t)) (in_w di _) (t / 2) 0 Nw l (credit_w di (sl t)) (by rw [kind_w]; rfl)
      (by rw [kind_w]; exact duty_w _ _ _ (by omega)) (by decide) hok _) $$ [Hp Hc HO]
  · isplitr; · iexact Hx
    isplitl [Hc]; · iexact Hc
    isplitl [HO]; · iexact HO
    iexact Hp
  rw [kind_w, sl_add, div_add, pay_w, sl_split]
  iintro ⟨HO, Hp, Hr, Hw⟩
  simp only [Prog.lift]
  iapply (wp_load 𝒱₀ (c : Thread nD τ) none Set.univ (m := xM) (S := Finset.univ) (Finset.subset_univ _)) $$ HX
  iintro HX
  rw [wp_ret]; imodintro
  iapply (load_sq c (shapeCasts_S1x1x1024x512_S1024x512) _) $$ Hw
  iintro %v %hv Hw
  iapply (wp_pure c _ Q)
  have ex : xM.view.readAt (Elt F) (Rect.unit (s := S4096x1024) ![0, 0] S4096x1024.size inb_S4096x1024_S4096x1024_0_0).toLoadRect (xstg m c)
      = xstg m c := Memref.readAt_unit_zero (Elt F) cc0_stg0_0 hz2 _ _
  have e : dotPay (xM.view.readAt (Elt F) (Rect.unit (s := S4096x1024) ![0, 0] S4096x1024.size inb_S4096x1024_S4096x1024_0_0).toLoadRect (xstg m c)) v
      = part m di t c := by rw [ex]; unfold dotPay part dotV; rw [hv]
  rw [e]
  iapply Hk
  isplitl [Hp Hr Hw]
  · isplitl [Hp Hr]; · isplitl [Hp] <;> iassumption
    iapply (ow_any c (wSlot di (sl t)) (wcol m c di t)); iexact Hw
  isplitl [HX] <;> iassumption

theorem wp_storeFull (v : FVec F S4096x512 .bf16) (Q : PUnit → sProp 𝕄) :
    owAny c (sendWhole di) ⊢ iprop((ow c (sendWhole di) fullShare v -∗ Q ⟨⟩) -∗ Wp c (storeFull di v) Q) := by
  unfold storeFull
  simp only [wp_bind]
  iintro H Hk
  unfold owAny
  icases H with ⟨%X, H⟩
  iapply (load_sq c (r := rSendWhole di) casts_whole _) $$ H
  iintro %u %hu H
  iapply (store_sq c (r := rSendWhole di) casts_whole (X := v) (w := shapeCast S1x4096x512 v shapeCasts_S4096x512_S1x4096x512) (shapeCast_shapeCast v _ _) Q) $$ [H]
  · iapply (ow_any c (sendWhole di) X); iexact H
  iexact Hk

theorem half_acc (last : Bool) (q : Fin 2) (a b : FVec F S4096x512 .bf16) :
    half q (accV last a b) = (match last with | true => geluH (addf (half q a) (half q b)) | false => addf (half q a) (half q b)) := by
  cases last <;> rfl

theorem wp_accHalf (last : Bool) (k : ℕ) (q : Fin 2) (a b : FVec F S4096x512 .bf16) (Q : PUnit → sProp 𝕄) :
    iprop(ow c (recvHalf di (sl k) q) fullShare (half q b) ∗ owAny c (sendHalf di q))
      ⊢ iprop(((ow c (recvHalf di (sl k) q) fullShare (half q b) ∗ ow c (sendHalf di q) fullShare (half q (accV last a b))) -∗ Q ⟨⟩)
          -∗ Wp c (accHalf di last k q a) Q) := by
  unfold accHalf
  simp only [wp_bind]
  iintro ⟨Hr, H⟩ Hk
  unfold owAny
  icases H with ⟨%X, H⟩
  iapply (load_sq c (shapeCasts_S1x1x4096x256_S4096x256) _) $$ Hr
  iintro %v %hv Hr
  iapply (load_sq c (r := rSendHalf di q) casts_half _) $$ H
  iintro %u %hu H
  iapply (store_sq c (r := rSendHalf di q) casts_half (X := half q (accV last a b)) (w := accPay last q a v)
    (by rw [half_acc, ← hv]; exact shapeCast_shapeCast _ _ _) Q) $$ [H]
  · iapply (ow_any c (sendHalf di q) X); iexact H
  iintro H; iapply Hk
  isplitl [Hr] <;> iassumption

end Rules

end Cert.RingProof

end
-- ==== Proof.Stages.lean ====
/-
# The stages of one direction

Each stage of `Prog` as one rule: the state of the direction before it, the payments it makes, the state after it.
-/
module

public import proofs.«01_k».proof.Proof.Steps

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig ℕ (Elt F) ℕ UU ℕ

variable (m : (ℓ : Loc nD τ sig) → Buf (Elt F) ℓ) (κ : Dev nD × Fin 26 → ℕ)

/-! ## Values -/

theorem src_lo (di : Fin 2) {n : ℕ} (q : Fin 2) (h : n % 6 < 4) : srcHalf di n q = sendHalf di q := if_pos h
theorem src_hi (di : Fin 2) {k : ℕ} (q : Fin 2) (h : 4 ≤ (k + 1) % 6) : srcHalf di (k + 1) q = recvHalf di (sl k) q := if_neg (by omega)
theorem val_start (di : Fin 2) {n : ℕ} (c : Dev nD) (h : n % 6 = 0) : val m di n c = part m di (4 * (n / 6)) c := by
  cases n with
  | zero => rfl
  | succ n => unfold val; rw [if_pos h]
theorem val_red (di : Fin 2) {j : ℕ} (c : Dev nD) (h : j % 6 < 3) :
    val m di (j + 1) c = accV ((j + 1) % 6 == 3) (part m di (4 * ((j + 1) / 6) + (j + 1) % 6) c) (val m di j (src di c)) := by
  conv_lhs => unfold val
  rw [if_neg (by omega), if_pos (by omega)]
theorem val_gath (di : Fin 2) {k : ℕ} (c : Dev nD) (h : 4 ≤ (k + 1) % 6) : val m di (k + 1) c = val m di k (src di c) := by
  conv_lhs => unfold val
  rw [if_neg (by omega), if_neg (by omega)]

/-! ## Sequences of tickets -/

def runFrom (P : ℕ → sProp 𝕄) : ℕ → ℕ → sProp 𝕄
  | 0, _ => iprop(emp)
  | f + 1, n => iprop(P n ∗ runFrom P f (n + 1))
/-- What `P` gives for `n`, `n + 1`, … below `N`. -/
def run (P : ℕ → sProp 𝕄) (N n : ℕ) : sProp 𝕄 := runFrom P (N - n) n
theorem run_pop (P : ℕ → sProp 𝕄) {N n : ℕ} (h : n < N) : run P N n = iprop(P n ∗ run P N (n + 1)) := by
  unfold run
  obtain ⟨f, hf⟩ : ∃ f, N - n = f + 1 := ⟨N - n - 1, by omega⟩
  rw [hf, show N - (n + 1) = f by omega]; rfl
theorem run_end (P : ℕ → sProp 𝕄) {N n : ℕ} (h : N ≤ n) : run P N n = iprop(emp) := by
  unfold run
  rw [show N - n = 0 by omega]; rfl

/-! ## States of a direction -/

section States
variable (c : Dev nD) (di : Fin 2)

def SS (n : ℕ) : sProp 𝕄 := iprop(SendPos c di n 0 ∗ SendPos c di n 1)
def SB (n : ℕ) : sProp 𝕄 := iprop(SendBusy c di n 0 ∗ SendBusy c di n 1)
def CR (n : ℕ) : sProp 𝕄 := iprop(CredPos c di n ∗ CredPos c di (n + 1))
def RP (k : ℕ) : sProp 𝕄 := iprop(RecvPos c di k 0 ∗ RecvPos c di k 1)
def RR (k : ℕ) : sProp 𝕄 := iprop(RP c di k ∗ RP c di (k + 1))
def tS (n : ℕ) : sProp 𝕄 := iprop((tSend c di n 0 ∗ tSend c di n 1) ∗ Pre c di n)
def tR (k : ℕ) : sProp 𝕄 := iprop(tRecv c di k 0 ∗ tRecv c di k 1)
/-- Everything the sends from `ns` on and the landings from `nr` on need of the schedule. -/
def Bank (ns nr : ℕ) : sProp 𝕄 := iprop(CR c di ns ∗ RR c di nr ∗ run (tS c di) 12 ns ∗ run (tR c di) 12 nr)
def Crds (k : ℕ) : sProp 𝕄 := run (tCrd c di) 10 k

def WP (t : ℕ) : sProp 𝕄 := if t < 8 then WBusy c di t else WFree c di t
/-- The weight slots before product `t`, two fetches ahead. -/
def WAs (t : ℕ) : sProp 𝕄 := iprop(WP c di t ∗ WP c di (t + 1) ∗ run (tW m c di) 8 (t + 2))
/-- The weight slots after product `t`, one free. -/
def WBs (t : ℕ) : sProp 𝕄 := iprop(WP c di (t + 1) ∗ WFree c di (t + 2) ∗ run (tW m c di) 8 (t + 2))

/-- The blocks written by the stores before `k`. -/
def Done : ℕ → sProp 𝕄
  | 0 => iprop(emp)
  | k + 1 => iprop(Done k ∗ Out m c di k)
theorem done_succ (k : ℕ) : Done m c di (k + 1) = iprop(Done m c di k ∗ Out m c di k) := rfl
/-- The stores before `k` are over. -/
def STs (k : ℕ) : sProp 𝕄 := iprop((StFree c di k ∗ StFree c di (k + 1)) ∗ run (tSt c di) 8 k ∗ Done m c di k)
/-- Store `k` is under way. -/
def SGs (k : ℕ) : sProp 𝕄 := iprop((StBusy c di k ∗ StFree c di (k + 1)) ∗ run (tSt c di) 8 (k + 1) ∗ Done m c di k)

/-- Between two stages: nothing under way. -/
def Idl (ns nr nc k : ℕ) : sProp 𝕄 := iprop(owAny c (sendWhole di) ∗ SS c di ns ∗ Bank c di ns nr ∗ Crds c di nc ∗ STs m c di k)

/-- The send buffer after reduce stage `n`: the last stage of a pass has also started its store. -/
def Tail (n : ℕ) : sProp 𝕄 :=
  if n % 6 = 3 then SGs m c di (4 * (n / 6)) else iprop(ow c (sendWhole di) fullShare.right (val m di n c) ∗ STs m c di (4 * (n / 6)))
/-- After the first stage of a pass. -/
def R0 (n : ℕ) : sProp 𝕄 := iprop(SB c di n ∗ Bank c di (n + 1) n ∗ Crds c di n ∗ Tail m c di n)
/-- After reduce stage `j + 1`. -/
def R1 (j : ℕ) : sProp 𝕄 := iprop(SB c di (j + 1) ∗ Landed c di j ∗ Bank c di (j + 2) (j + 1) ∗ Crds c di j ∗ Tail m c di (j + 1))
/-- After a gather stage that forwarded landing `k`. -/
def GS (k st : ℕ) : sProp 𝕄 :=
  iprop(owAny c (sendWhole di) ∗ SB c di (k + 1) ∗ (Got c di k 0 ∗ Got c di k 1) ∗ Bank c di (k + 2) (k + 1) ∗ Crds c di k ∗ SGs m c di st)
/-- After the last gather stage of a pass. -/
def GC (k st : ℕ) : sProp 𝕄 :=
  iprop(owAny c (sendWhole di) ∗ SS c di (k + 1) ∗ ow c (recvWhole di (sl k)) fullShare.left (val m di k (src di c)) ∗ (Got c di k 0 ∗ Got c di k 1)
    ∗ Bank c di (k + 1) (k + 1) ∗ Crds c di k ∗ SGs m c di st)
def Keep (k : ℕ) : sProp 𝕄 := if k < 10 then iprop(emp) else Landed c di k

end States

/-- The payment of the credit for landing `k`, if it is given. -/
def crdL (di : Fin 2) (k : ℕ) (l : List Item) : List Item := if k < 10 then .crd di k :: l else l

section Stages
variable (c : Dev nD) (di : Fin 2) (L l : List Item)

/-! ## Pieces -/

theorem st_mm (t : ℕ) (ht : t < 8) (hok : Ok 0 l) (Q : FVec F S4096x512 .bf16 → sProp 𝕄) :
    iprop(ctx m κ ∗ WAs m c di t ∗ Xst m c ∗ Ow c l)
      ⊢ iprop(((WBs m c di t ∗ Xst m c ∗ Ow c l) -∗ Q (part m di t c)) -∗ Wp c (mm c di t) Q) := by
  unfold WAs WBs
  rw [show WP c di t = (WBusy c di t : sProp 𝕄) from if_pos ht]
  iintro ⟨#Hx, ⟨Hw, Hw', Hr⟩, HX, HO⟩ Hk
  iapply (wp_mm m κ c di l t ht hok Q) $$ [Hw HX HO]
  · isplitr; · iexact Hx
    isplitl [Hw]; · iexact Hw
    isplitl [HX] <;> iassumption
  iintro ⟨Hw, HX, HO⟩
  iapply Hk
  isplitl [Hw Hw' Hr]
  · isplitl [Hw']; · iexact Hw'
    isplitl [Hw] <;> iassumption
  isplitl [HX] <;> iassumption

theorem st_fetch (t : ℕ) (ht : t + 2 < 8) (Q : PUnit → sProp 𝕄) :
    iprop(ctx m κ ∗ WBs m c di t) ⊢ iprop((WAs m c di (t + 1) -∗ Q ⟨⟩) -∗ Wp c (fetchW c di (t + 2)) Q) := by
  unfold WAs WBs
  rw [run_pop _ ht, show WP c di (t + 1 + 1) = (WBusy c di (t + 2) : sProp 𝕄) from if_pos ht]
  iintro ⟨#Hx, Hw, Hf, Ht, Hr⟩ Hk
  iapply (wp_fetchW m κ c di (t + 2) ht Q) $$ [Hf Ht]
  · isplitr; · iexact Hx
    isplitl [Hf] <;> iassumption
  iintro Hf
  iapply Hk
  isplitl [Hw]; · iexact Hw
  isplitl [Hf] <;> iassumption

theorem st_fetchIf (t : ℕ) (p : PG F PUnit) (Q : PUnit → sProp 𝕄) :
    iprop(ctx m κ ∗ WBs m c di t)
      ⊢ iprop((WAs m c di (t + 1) -∗ Wp c p Q) -∗ Wp c (if t + 2 < 8 then fetchW c di (t + 2) >>= fun _ => p else p) Q) := by
  by_cases h : t + 2 < 8
  · rw [if_pos h]; simp only [wp_bind]; exact st_fetch m κ c di t h (fun _ => Wp c p Q)
  · rw [if_neg h]
    unfold WAs WBs
    rw [run_end _ (by omega), run_end _ (by omega), show WP c di (t + 1 + 1) = (WFree c di (t + 2) : sProp 𝕄) from if_neg h]
    iintro ⟨#Hx, Hw, Hf, He⟩ Hk
    iapply Hk
    isplitl [Hw]; · iexact Hw
    isplitl [Hf] <;> iassumption

theorem st_give (k : ℕ) (hL : L = crdL di k l) (Q : PUnit → sProp 𝕄) :
    iprop(ctx m κ ∗ Landed c di k ∗ Crds c di k ∗ Ow c L)
      ⊢ iprop(((Crds c di (k + 1) ∗ Keep c di k ∗ Ow c l) -∗ Q ⟨⟩) -∗ Wp c (giveCredit c di k) Q) := by
  subst hL
  unfold Keep Crds crdL
  by_cases h : k < 10
  · rw [if_pos h, if_pos h, run_pop _ h]
    iintro ⟨#Hx, Hl, ⟨Ht, Hr⟩, HO⟩ Hk
    iapply (wp_giveCredit m κ c di l k h Q) $$ [Hl Ht HO]
    · isplitr; · iexact Hx
      isplitl [Hl]; · iexact Hl
      isplitl [Ht] <;> iassumption
    iintro HO
    iapply Hk
    isplitl [Hr]; · iexact Hr
    isplitr; · iempintro
    iexact HO
  · rw [if_neg h, if_neg h, run_end _ (by omega), run_end _ (by omega)]
    unfold giveCredit
    rw [if_neg h]
    iintro ⟨#Hx, Hl, He, HO⟩ Hk
    iapply (wp_pure c ⟨⟩ Q)
    iapply Hk
    isplitl [He]; · iexact He
    isplitl [Hl] <;> iassumption

/-- Send `n` from the send buffer. -/
theorem st_sendLo (n : ℕ) (q : Fin 2) (hn : n < 12) (h : n % 6 < 4) (Q : PUnit → sProp 𝕄) :
    iprop(ctx m κ ∗ SendPos c di n q ∗ tSend c di n q ∗ ow c (sendHalf di q) fullShare.left (half q (val m di n c))
        ∗ owAny (dst di c) (recvHalf di (sl n) q) ∗ (reached ER (recvC (dst di c) di (sl n) q) (n / 2) ∗ reached ER (credC c di (sl n)) (n / 2))
        ∗ Ow c (.snd di n q :: l))
      ⊢ iprop(((SendBusy c di n q ∗ Ow c l) -∗ Q ⟨⟩) -∗ Wp c (sendChunk c di n q) Q) := by
  have := wp_sendChunk m κ c di l n q hn Q
  rw [src_lo di q h] at this
  exact this

/-- Send `k + 1` forwards landing `k`. -/
theorem st_sendHi (k : ℕ) (q : Fin 2) (hn : k + 1 < 12) (h : 4 ≤ (k + 1) % 6) (Q : PUnit → sProp 𝕄) :
    iprop(ctx m κ ∗ SendPos c di (k + 1) q ∗ tSend c di (k + 1) q ∗ ow c (recvHalf di (sl k) q) fullShare.left (half q (val m di k (src di c)))
        ∗ owAny (dst di c) (recvHalf di (sl (k + 1)) q)
        ∗ (reached ER (recvC (dst di c) di (sl (k + 1)) q) ((k + 1) / 2) ∗ reached ER (credC c di (sl (k + 1))) ((k + 1) / 2))
        ∗ Ow c (.snd di (k + 1) q :: l))
      ⊢ iprop(((SendBusy c di (k + 1) q ∗ Ow c l) -∗ Q ⟨⟩) -∗ Wp c (sendChunk c di (k + 1) q) Q) := by
  have := wp_sendChunk m κ c di l (k + 1) q hn Q
  rw [src_hi di q h, val_gath m di c h] at this
  exact this

/-- Both halves of send `n` from the send buffer are over. -/
theorem st_waitLo (n : ℕ) (hn : n < 12) (h : n % 6 < 4) (hok : Ok 0 l) {α : Type} (p : PG F α) (Q : α → sProp 𝕄) :
    iprop(ctx m κ ∗ SB c di n ∗ Ow c l)
      ⊢ iprop(((SS c di (n + 1) ∗ ow c (sendWhole di) fullShare.left (val m di n c) ∗ Ow c l) -∗ Wp c p Q)
          -∗ Wp c (waitSend di n 0 >>= fun _ => waitSend di n 1 >>= fun _ => p) Q) := by
  unfold SB SS
  simp only [wp_bind]
  rw [send_halves]
  iintro ⟨#Hx, ⟨H0, H1⟩, HO⟩ Hk
  iapply (wp_waitSend m κ c di l n 0 hn hok _) $$ [H0 HO]
  · isplitr; · iexact Hx
    isplitl [H0] <;> iassumption
  rw [src_lo di 0 h]
  iintro ⟨H0, Hh0, HO⟩
  iapply (wp_waitSend m κ c di l n 1 hn hok _) $$ [H1 HO]
  · isplitr; · iexact Hx
    isplitl [H1] <;> iassumption
  rw [src_lo di 1 h]
  iintro ⟨H1, Hh1, HO⟩
  iapply Hk
  isplitl [H0 H1]; · isplitl [H0] <;> iassumption
  isplitl [Hh0 Hh1]; · isplitl [Hh0] <;> iassumption
  iexact HO

/-- Both halves of send `k + 1`, which forwards landing `k`, are over. -/
theorem st_waitHi (k : ℕ) (hn : k + 1 < 12) (h : 4 ≤ (k + 1) % 6) (hok : Ok 0 l) {α : Type} (p : PG F α) (Q : α → sProp 𝕄) :
    iprop(ctx m κ ∗ SB c di (k + 1) ∗ Ow c l)
      ⊢ iprop(((SS c di (k + 2) ∗ ow c (recvWhole di (sl k)) fullShare.left (val m di k (src di c)) ∗ Ow c l) -∗ Wp c p Q)
          -∗ Wp c (waitSend di (k + 1) 0 >>= fun _ => waitSend di (k + 1) 1 >>= fun _ => p) Q) := by
  unfold SB SS
  simp only [wp_bind]
  rw [recv_halves]
  iintro ⟨#Hx, ⟨H0, H1⟩, HO⟩ Hk
  iapply (wp_waitSend m κ c di l (k + 1) 0 hn hok _) $$ [H0 HO]
  · isplitr; · iexact Hx
    isplitl [H0] <;> iassumption
  rw [src_hi di 0 h, val_gath m di c h]
  iintro ⟨H0, Hh0, HO⟩
  iapply (wp_waitSend m κ c di l (k + 1) 1 hn hok _) $$ [H1 HO]
  · isplitr; · iexact Hx
    isplitl [H1] <;> iassumption
  rw [src_hi di 1 h, val_gath m di c h]
  iintro ⟨H1, Hh1, HO⟩
  iapply Hk
  isplitl [H0 H1]; · isplitl [H0] <;> iassumption
  isplitl [Hh0 Hh1]; · isplitl [Hh0] <;> iassumption
  iexact HO

theorem st_startStore (k : ℕ) (hk : k < 8) (Q : PUnit → sProp 𝕄) :
    iprop(ctx m κ ∗ STs m c di k ∗ ow c (stSrc di k) fullShare.right (outV m di k c))
      ⊢ iprop((SGs m c di k -∗ Q ⟨⟩) -∗ Wp c (startStore c di k) Q) := by
  unfold STs SGs
  rw [run_pop _ hk]
  iintro ⟨#Hx, ⟨⟨Hf, Hf'⟩, ⟨Ht, Hr⟩, Hd⟩, Hs⟩ Hk
  iapply (wp_startStore m κ c di k hk Q) $$ [Hf Ht Hs]
  · isplitr; · iexact Hx
    isplitl [Hf]; · iexact Hf
    isplitl [Ht] <;> iassumption
  iintro Hf
  iapply Hk
  isplitl [Hf Hf']; · isplitl [Hf] <;> iassumption
  isplitl [Hr] <;> iassumption

theorem st_waitStore (k : ℕ) (hk : k < 8) (hok : Ok 0 l) (Q : PUnit → sProp 𝕄) :
    iprop(ctx m κ ∗ SGs m c di k ∗ Ow c l)
      ⊢ iprop(((STs m c di (k + 1) ∗ ow c (stSrc di k) fullShare.right (outV m di k c) ∗ Ow c l) -∗ Q ⟨⟩) -∗ Wp c (waitStore c di k) Q) := by
  unfold STs SGs
  rw [done_succ]
  iintro ⟨#Hx, ⟨⟨Hf, Hf'⟩, Hr, Hd⟩, HO⟩ Hk
  iapply (wp_waitStore m κ c di l k hk hok Q) $$ [Hf HO]
  · isplitr; · iexact Hx
    isplitl [Hf] <;> iassumption
  iintro ⟨Hf, Hs, Ho, HO⟩
  iapply Hk
  isplitl [Hf Hf' Hr Hd Ho]
  · isplitl [Hf Hf']
    · isplitl [Hf']
      · iexact Hf'
      · iexact Hf
    isplitl [Hr]; · iexact Hr
    isplitl [Hd] <;> iassumption
  isplitl [Hs] <;> iassumption

/-! ## Stages -/

theorem st_startA (n : ℕ) (hn : n < 12) (h : n % 6 = 0) (hL : L = .snd di n 0 :: .snd di n 1 :: l) (hok : 2 ≤ n → Ok (ixC di (n - 2)) L)
    (Q : PUnit → sProp 𝕄) :
    iprop(ctx m κ ∗ Idl m c di n n n (4 * (n / 6)) ∗ WBs m c di (4 * (n / 6)) ∗ Ow c L)
      ⊢ iprop(((R0 m c di n ∗ WAs m c di (4 * (n / 6) + 1) ∗ Ow c l) -∗ Q ⟨⟩) -∗ Wp c (startA c di n (part m di (4 * (n / 6)) c)) Q) := by
  subst hL
  unfold Idl R0 Bank CR SS SB tS Tail startA
  rw [run_pop _ hn, if_neg (by omega), ← val_start m di c h]
  simp only [wp_bind]
  iintro ⟨#Hx, ⟨Hs, ⟨HS0, HS1⟩, ⟨⟨Hc, Hc'⟩, Hrr, ⟨⟨⟨Ht0, Ht1⟩, Hpre⟩, Hts⟩, Htr⟩, Hcs, Hst⟩, HW, HO⟩ Hk
  iapply (wp_storeFull c di (val m di n c) _) $$ Hs
  iintro Hs
  iapply (st_fetch m κ c di (4 * (n / 6)) (by omega) _) $$ [HW]
  · isplitr <;> iassumption
  iintro HW
  iapply (wp_takeCredit m κ c di _ n hn hok _) $$ [Hc Hpre HO]
  · isplitr; · iexact Hx
    isplitl [Hc]; · iexact Hc
    isplitl [Hpre] <;> iassumption
  unfold Slot
  iintro ⟨Hc, ⟨Hd0, Hd1, #Hr0, #Hr1, #Hrc⟩, HO⟩
  ihave Hs' := (ow_split c (sendWhole di) fullShare (val m di n c)) $$ Hs
  icases Hs' with ⟨Hl, Hr⟩
  ihave Hl' := (Entails.of_eq (send_halves c di fullShare.left (val m di n c))) $$ Hl
  icases Hl' with ⟨Hl0, Hl1⟩
  iapply (st_sendLo m κ c di _ n 0 hn (by omega) _) $$ [HS0 Ht0 Hl0 Hd0 HO]
  · isplitr; · iexact Hx
    isplitl [HS0]; · iexact HS0
    isplitl [Ht0]; · iexact Ht0
    isplitl [Hl0]; · iexact Hl0
    isplitl [Hd0]; · iexact Hd0
    isplitr; · isplitl [] <;> iassumption
    iexact HO
  iintro ⟨HS0, HO⟩
  iapply (st_sendLo m κ c di _ n 1 hn (by omega) _) $$ [HS1 Ht1 Hl1 Hd1 HO]
  · isplitr; · iexact Hx
    isplitl [HS1]; · iexact HS1
    isplitl [Ht1]; · iexact Ht1
    isplitl [Hl1]; · iexact Hl1
    isplitl [Hd1]; · iexact Hd1
    isplitr; · isplitl [] <;> iassumption
    iexact HO
  iintro ⟨HS1, HO⟩
  iapply Hk
  isplitr [HW HO]
  · isplitl [HS0 HS1]; · isplitl [HS0] <;> iassumption
    isplitl [Hc Hc' Hrr Hts Htr]
    · isplitl [Hc Hc']; · isplitl [Hc'] <;> iassumption
      isplitl [Hrr]; · iexact Hrr
      isplitl [Hts] <;> iassumption
    isplitl [Hcs]; · iexact Hcs
    isplitl [Hr] <;> iassumption
  isplitl [HW] <;> iassumption

theorem owAny_join (v : FVec F S4096x512 .bf16) :
    iprop(ow c (sendWhole di) fullShare.left v ∗ ow c (sendWhole di) fullShare.right v) ⊢ (owAny c (sendWhole di) : sProp 𝕄) :=
  (ow_join c (sendWhole di) fullShare v v).trans (ow_any c (sendWhole di) v)

theorem landed_join (k : ℕ) (v w : FVec F S4096x512 .bf16) :
    iprop((ow c (recvWhole di (sl k)) fullShare.left v ∗ ow c (recvWhole di (sl k)) fullShare.right w) ∗ Got c di k 0 ∗ Got c di k 1)
      ⊢ (Landed c di k : sProp 𝕄) := by
  unfold Landed
  iintro ⟨H, Hg⟩
  isplitl [H]
  · ihave H := (ow_join c (recvWhole di (sl k)) fullShare v w) $$ H
    ihave H := (Entails.of_eq (recv_halves c di (sl k) fullShare v)) $$ H
    icases H with ⟨H0, H1⟩
    isplitl [H0]
    · iapply (ow_any c (recvHalf di (sl k) 0) (half 0 v)); iexact H0
    · iapply (ow_any c (recvHalf di (sl k) 1) (half 1 v)); iexact H1
  iexact Hg

/-- Drain after the first stage of a pass. -/
theorem st_drain0 (n : ℕ) (hn : n < 12) (h : n % 6 = 0) (hok : Ok 0 l) (Q : PUnit → sProp 𝕄) :
    iprop(ctx m κ ∗ R0 m c di n ∗ Ow c l)
      ⊢ iprop(((Idl m c di (n + 1) n n (4 * (n / 6)) ∗ Ow c l) -∗ Q ⟨⟩) -∗ Wp c (drainR c di n) Q) := by
  unfold R0 Tail Idl drainR
  rw [if_neg (by omega), if_pos h]
  iintro ⟨#Hx, ⟨HS, HB, Hc, Hr, Hst⟩, HO⟩ Hk
  iapply (st_waitLo m κ c di l n hn (by omega) hok _ Q) $$ [HS HO]
  · isplitr; · iexact Hx
    isplitl [HS] <;> iassumption
  iintro ⟨HS, Hl, HO⟩
  iapply (wp_pure c ⟨⟩ Q)
  iapply Hk
  isplitr [HO]
  · isplitl [Hl Hr]
    · iapply (owAny_join c di (val m di n c)); isplitl [Hl] <;> iassumption
    isplitl [HS]; · iexact HS
    isplitl [HB]; · iexact HB
    isplitl [Hc] <;> iassumption
  iexact HO

/-- Drain after reduce stage `j + 1`, not the last of its pass. -/
theorem st_drain1 (j : ℕ) (hn : j + 1 < 12) (h : j % 6 < 2) (hL : L = crdL di j l) (hj : j < 10) (hok : Ok 0 L) (Q : PUnit → sProp 𝕄) :
    iprop(ctx m κ ∗ R1 m c di j ∗ Ow c L)
      ⊢ iprop(((Idl m c di (j + 2) (j + 1) (j + 1) (4 * ((j + 1) / 6)) ∗ Ow c l) -∗ Q ⟨⟩) -∗ Wp c (drainR c di (j + 1)) Q) := by
  unfold R1 Tail Idl drainR
  rw [if_neg (by omega), if_neg (by omega)]
  iintro ⟨#Hx, ⟨HS, HL, HB, Hc, Hr, Hst⟩, HO⟩ Hk
  iapply (st_waitLo m κ c di L (j + 1) hn (by omega) hok _ Q) $$ [HS HO]
  · isplitr; · iexact Hx
    isplitl [HS] <;> iassumption
  iintro ⟨HS, Hl, HO⟩
  iapply (st_give m κ c di L l j hL Q) $$ [HL Hc HO]
  · isplitr; · iexact Hx
    isplitl [HL]; · iexact HL
    isplitl [Hc] <;> iassumption
  iintro ⟨Hc, -, HO⟩
  iapply Hk
  isplitr [HO]
  · isplitl [Hl Hr]
    · iapply (owAny_join c di (val m di (j + 1) c)); isplitl [Hl] <;> iassumption
    isplitl [HS]; · iexact HS
    isplitl [HB]; · iexact HB
    isplitl [Hc] <;> iassumption
  iexact HO

theorem owAny_halves : (owAny c (sendWhole di) : sProp 𝕄) ⊢ iprop(owAny c (sendHalf di 0) ∗ owAny c (sendHalf di 1)) := by
  unfold owAny
  iintro ⟨%X, H⟩
  ihave H := (Entails.of_eq (send_halves c di fullShare X)) $$ H
  icases H with ⟨H0, H1⟩
  isplitl [H0]
  · iexists _; iexact H0
  · iexists _; iexact H1

theorem Bank_open (ns nr : ℕ) (h : ns < 12) (h' : nr < 12) :
    (Bank c di ns nr : sProp 𝕄) = iprop((CredPos c di ns ∗ CredPos c di (ns + 1)) ∗ ((RecvPos c di nr 0 ∗ RecvPos c di nr 1) ∗ RP c di (nr + 1))
      ∗ (((tSend c di ns 0 ∗ tSend c di ns 1) ∗ Pre c di ns) ∗ run (tS c di) 12 (ns + 1))
      ∗ ((tRecv c di nr 0 ∗ tRecv c di nr 1) ∗ run (tR c di) 12 (nr + 1))) := by
  unfold Bank
  rw [run_pop _ h, run_pop _ h']; rfl

/-- Reduce stage `j + 1`. -/
theorem st_reduce (j : ℕ) (hn : j + 1 < 12) (h : j % 6 < 3) (hL : L = .snd di (j + 1) 0 :: .snd di (j + 1) 1 :: l)
    (hok : Ok (ixS di j) L) (hok' : 2 ≤ j + 1 → Ok (ixC di (j + 1 - 2)) L) (Q : PUnit → sProp 𝕄) :
    iprop(ctx m κ ∗ Idl m c di (j + 1) j j (4 * ((j + 1) / 6)) ∗ WBs m c di (4 * ((j + 1) / 6) + (j + 1) % 6) ∗ Ow c L)
      ⊢ iprop(((R1 m c di j ∗ WAs m c di (4 * ((j + 1) / 6) + (j + 1) % 6 + 1) ∗ Ow c l) -∗ Q ⟨⟩)
          -∗ Wp c (reduceB c di (j + 1) (part m di (4 * ((j + 1) / 6) + (j + 1) % 6) c)) Q) := by
  subst hL
  have hok1 : Ok (ixS di j) (.snd di (j + 1) 1 :: l) := fun x hx => hok x (List.mem_cons_of_mem _ hx)
  unfold Idl R1 SS SB Landed reduceB
  rw [Bank_open c di (j + 1) j hn (by omega), Nat.add_sub_cancel]
  simp only [wp_bind]
  iintro ⟨#Hx, ⟨Hs, ⟨HS0, HS1⟩, ⟨⟨Hc, Hc'⟩, ⟨⟨Hp0, Hp1⟩, Hrp⟩, ⟨⟨⟨Ht0, Ht1⟩, Hpre⟩, Hts⟩, ⟨⟨Hu0, Hu1⟩, Htr⟩⟩, Hcs, Hst⟩, HW, HO⟩ Hk
  ihave Hs := (owAny_halves c di) $$ Hs
  icases Hs with ⟨Hb0, Hb1⟩
  iapply (wp_waitRecv m κ c di _ j 0 (by omega) hok _) $$ [Hp0 Hu0 HO]
  · isplitr; · iexact Hx
    isplitl [Hp0]; · iexact Hp0
    isplitl [Hu0] <;> iassumption
  iintro ⟨Hp0, Hv0, #Hg0, HO⟩
  iapply (wp_accHalf c di ((j + 1) % 6 == 3) j 0 (part m di (4 * ((j + 1) / 6) + (j + 1) % 6) c) (val m di j (src di c)) _) $$ [Hv0 Hb0]
  · isplitl [Hv0] <;> iassumption
  rw [← val_red m di c h]
  iintro ⟨Hv0, Hb0⟩
  iapply (wp_takeCredit m κ c di _ (j + 1) hn hok' _) $$ [Hc Hpre HO]
  · isplitr; · iexact Hx
    isplitl [Hc]; · iexact Hc
    isplitl [Hpre] <;> iassumption
  unfold Slot
  iintro ⟨Hc, ⟨Hd0, Hd1, #Hr0, #Hr1, #Hrc⟩, HO⟩
  ihave Hb0 := (ow_split c (sendHalf di 0) fullShare _) $$ Hb0
  icases Hb0 with ⟨Hl0, Hb0⟩
  iapply (st_sendLo m κ c di _ (j + 1) 0 hn (by omega) _) $$ [HS0 Ht0 Hl0 Hd0 HO]
  · isplitr; · iexact Hx
    isplitl [HS0]; · iexact HS0
    isplitl [Ht0]; · iexact Ht0
    isplitl [Hl0]; · iexact Hl0
    isplitl [Hd0]; · iexact Hd0
    isplitr; · isplitl [] <;> iassumption
    iexact HO
  iintro ⟨HS0, HO⟩
  iapply (wp_waitRecv m κ c di _ j 1 (by omega) hok1 _) $$ [Hp1 Hu1 HO]
  · isplitr; · iexact Hx
    isplitl [Hp1]; · iexact Hp1
    isplitl [Hu1] <;> iassumption
  iintro ⟨Hp1, Hv1, #Hg1, HO⟩
  iapply (wp_accHalf c di ((j + 1) % 6 == 3) j 1 (part m di (4 * ((j + 1) / 6) + (j + 1) % 6) c) (val m di j (src di c)) _) $$ [Hv1 Hb1]
  · isplitl [Hv1] <;> iassumption
  rw [← val_red m di c h]
  iintro ⟨Hv1, Hb1⟩
  ihave Hb1 := (ow_split c (sendHalf di 1) fullShare _) $$ Hb1
  icases Hb1 with ⟨Hl1, Hb1⟩
  iapply (st_sendLo m κ c di _ (j + 1) 1 hn (by omega) _) $$ [HS1 Ht1 Hl1 Hd1 HO]
  · isplitr; · iexact Hx
    isplitl [HS1]; · iexact HS1
    isplitl [Ht1]; · iexact Ht1
    isplitl [Hl1]; · iexact Hl1
    isplitl [Hd1]; · iexact Hd1
    isplitr; · isplitl [] <;> iassumption
    iexact HO
  iintro ⟨HS1, HO⟩
  iapply (st_fetchIf m κ c di (4 * ((j + 1) / 6) + (j + 1) % 6) _ Q) $$ [HW]
  · isplitr <;> iassumption
  iintro HW
  have hr : iprop(ow c (sendHalf di 0) fullShare.right (half 0 (val m di (j + 1) c)) ∗ ow c (sendHalf di 1) fullShare.right (half 1 (val m di (j + 1) c)))
      ⊢ (ow c (sendWhole di) fullShare.right (val m di (j + 1) c) : sProp 𝕄) := Entails.of_eq (send_halves c di fullShare.right (val m di (j + 1) c)).symm
  ihave Hr := hr $$ [Hb0 Hb1]
  · isplitl [Hb0] <;> iassumption
  have ht : iprop(ctx m κ ∗ ow c (sendWhole di) fullShare.right (val m di (j + 1) c) ∗ STs m c di (4 * ((j + 1) / 6)))
      ⊢ iprop((Tail m c di (j + 1) -∗ Q ⟨⟩) -∗ Wp c (if (j + 1) % 6 = 3 then startStore c di (4 * ((j + 1) / 6)) else pure ⟨⟩) Q) := by
    unfold Tail
    by_cases h3 : (j + 1) % 6 = 3
    · rw [if_pos h3, if_pos h3]
      have := st_startStore m κ c di (4 * ((j + 1) / 6)) (by omega) Q
      rw [show stSrc di (4 * ((j + 1) / 6)) = sendWhole di from if_pos (by omega),
        show outV m di (4 * ((j + 1) / 6)) c = val m di (j + 1) c from (if_pos (by omega)).trans (by congr 1; omega)] at this
      iintro ⟨#Hx, Hr, Hst⟩ Hk
      iapply this $$ [Hr Hst]
      · isplitr; · iexact Hx
        isplitl [Hst] <;> iassumption
      iexact Hk
    · rw [if_neg h3, if_neg h3]
      iintro ⟨#Hx, Hr, Hst⟩ Hk
      iapply (wp_pure c ⟨⟩ Q)
      iapply Hk
      isplitl [Hr] <;> iassumption
  iapply ht $$ [Hr Hst]
  · isplitr; · iexact Hx
    isplitl [Hr] <;> iassumption
  iintro Htl
  iapply Hk
  isplitr [HW HO]
  · isplitl [HS0 HS1]; · isplitl [HS0] <;> iassumption
    isplitl [Hv0 Hv1]
    · isplitl [Hv0 Hv1]
      · isplitl [Hv0]
        · iapply (ow_any c (recvHalf di (sl j) 0) _); iexact Hv0
        · iapply (ow_any c (recvHalf di (sl j) 1) _); iexact Hv1
      isplitl [] <;> iassumption
    isplitl [Hc Hc' Hp0 Hp1 Hrp Hts Htr]
    · unfold Bank CR RR RP
      isplitl [Hc Hc']
      · isplitl [Hc']
        · iexact Hc'
        · iexact Hc
      isplitl [Hp0 Hp1 Hrp]
      · isplitl [Hrp]
        · iexact Hrp
        isplitl [Hp0]
        · iexact Hp0
        · iexact Hp1
      isplitl [Hts] <;> iassumption
    isplitl [Hcs] <;> iassumption
  isplitl [HW] <;> iassumption

/-- Drain after the last reduce stage of a pass. -/
theorem st_drainG3 (j : ℕ) (hn : j + 1 < 12) (h : j % 6 = 2) (hL : L = crdL di j l) (hj : j < 10) (hok : Ok 0 L) (hok' : Ok 0 l) (st : ℕ)
    (hst : st = 4 * ((j + 1) / 6)) (Q : PUnit → sProp 𝕄) :
    iprop(ctx m κ ∗ R1 m c di j ∗ Ow c L)
      ⊢ iprop(((Idl m c di (j + 2) (j + 1) (j + 1) (st + 1) ∗ Ow c l) -∗ Q ⟨⟩) -∗ Wp c (drainG c di (j + 1) st) Q) := by
  subst hst
  unfold R1 Tail Idl drainG
  rw [if_pos (by omega), if_pos (by omega), Nat.add_sub_cancel]
  iintro ⟨#Hx, ⟨HS, HL, HB, Hc, Hst⟩, HO⟩ Hk
  iapply (st_waitLo m κ c di L (j + 1) hn (by omega) hok _ Q) $$ [HS HO]
  · isplitr; · iexact Hx
    isplitl [HS] <;> iassumption
  simp only [wp_bind]
  iintro ⟨HS, Hl, HO⟩
  iapply (st_give m κ c di L l j hL _) $$ [HL Hc HO]
  · isplitr; · iexact Hx
    isplitl [HL]; · iexact HL
    isplitl [Hc] <;> iassumption
  iintro ⟨Hc, -, HO⟩
  have hw := st_waitStore m κ c di l (4 * ((j + 1) / 6)) (by omega) hok' Q
  rw [show stSrc di (4 * ((j + 1) / 6)) = sendWhole di from if_pos (by omega),
    show outV m di (4 * ((j + 1) / 6)) c = val m di (j + 1) c from (if_pos (by omega)).trans (by congr 1; omega)] at hw
  iapply hw $$ [Hst HO]
  · isplitr; · iexact Hx
    isplitl [Hst] <;> iassumption
  iintro ⟨Hst, Hr, HO⟩
  iapply Hk
  isplitr [HO]
  · isplitl [Hl Hr]
    · iapply (owAny_join c di (val m di (j + 1) c)); isplitl [Hl] <;> iassumption
    isplitl [HS]; · iexact HS
    isplitl [HB]; · iexact HB
    isplitl [Hc] <;> iassumption
  iexact HO

/-- What the store of landing `k` reads and writes. -/
theorem st_of_landing (k st : ℕ) (h : 3 ≤ k % 6) (hst : st = 4 * (k / 6) + k % 6 - 2) :
    stSrc di st = recvWhole di (sl k) ∧ outV m di st c = val m di k (src di c) := by
  subst hst
  constructor
  · unfold stSrc; rw [if_neg (by omega)]; unfold sl; congr 2; omega
  · unfold outV; rw [if_neg (by omega)]; congr 1; omega

/-- A gather stage that forwards landing `k` and stores it. -/
theorem st_gatherB (k st : ℕ) (hn : k + 1 < 12) (h : 3 ≤ k % 6) (h' : 4 ≤ (k + 1) % 6) (hst : st = 4 * (k / 6) + k % 6 - 2)
    (hL : L = .snd di (k + 1) 0 :: .snd di (k + 1) 1 :: l)
    (hok : Ok (ixS di k) L) (hok' : 2 ≤ k + 1 → Ok (ixC di (k + 1 - 2)) L) (Q : PUnit → sProp 𝕄) :
    iprop(ctx m κ ∗ Idl m c di (k + 1) k k st ∗ Ow c L)
      ⊢ iprop(((GS m c di k st ∗ Ow c l) -∗ Q ⟨⟩) -∗ Wp c (gatherB c di k st) Q) := by
  subst hL
  have hok1 : Ok (ixS di k) (.snd di (k + 1) 1 :: l) := fun x hx => hok x (List.mem_cons_of_mem _ hx)
  unfold Idl GS SS SB gatherB
  rw [Bank_open c di (k + 1) k hn (by omega)]
  simp only [wp_bind]
  iintro ⟨#Hx, ⟨Hs, ⟨HS0, HS1⟩, ⟨⟨Hc, Hc'⟩, ⟨⟨Hp0, Hp1⟩, Hrp⟩, ⟨⟨⟨Ht0, Ht1⟩, Hpre⟩, Hts⟩, ⟨⟨Hu0, Hu1⟩, Htr⟩⟩, Hcs, Hst⟩, HO⟩ Hk
  iapply (wp_waitRecv m κ c di _ k 0 (by omega) hok _) $$ [Hp0 Hu0 HO]
  · isplitr; · iexact Hx
    isplitl [Hp0]; · iexact Hp0
    isplitl [Hu0] <;> iassumption
  iintro ⟨Hp0, Hv0, #Hg0, HO⟩
  iapply (wp_takeCredit m κ c di _ (k + 1) hn hok' _) $$ [Hc Hpre HO]
  · isplitr; · iexact Hx
    isplitl [Hc]; · iexact Hc
    isplitl [Hpre] <;> iassumption
  unfold Slot
  iintro ⟨Hc, ⟨Hd0, Hd1, #Hr0, #Hr1, #Hrc⟩, HO⟩
  ihave Hv0 := (ow_split c (recvHalf di (sl k) 0) fullShare _) $$ Hv0
  icases Hv0 with ⟨Hl0, Hv0⟩
  iapply (st_sendHi m κ c di _ k 0 hn h' _) $$ [HS0 Ht0 Hl0 Hd0 HO]
  · isplitr; · iexact Hx
    isplitl [HS0]; · iexact HS0
    isplitl [Ht0]; · iexact Ht0
    isplitl [Hl0]; · iexact Hl0
    isplitl [Hd0]; · iexact Hd0
    isplitr; · isplitl [] <;> iassumption
    iexact HO
  iintro ⟨HS0, HO⟩
  iapply (wp_waitRecv m κ c di _ k 1 (by omega) hok1 _) $$ [Hp1 Hu1 HO]
  · isplitr; · iexact Hx
    isplitl [Hp1]; · iexact Hp1
    isplitl [Hu1] <;> iassumption
  iintro ⟨Hp1, Hv1, #Hg1, HO⟩
  ihave Hv1 := (ow_split c (recvHalf di (sl k) 1) fullShare _) $$ Hv1
  icases Hv1 with ⟨Hl1, Hv1⟩
  iapply (st_sendHi m κ c di _ k 1 hn h' _) $$ [HS1 Ht1 Hl1 Hd1 HO]
  · isplitr; · iexact Hx
    isplitl [HS1]; · iexact HS1
    isplitl [Ht1]; · iexact Ht1
    isplitl [Hl1]; · iexact Hl1
    isplitl [Hd1]; · iexact Hd1
    isplitr; · isplitl [] <;> iassumption
    iexact HO
  iintro ⟨HS1, HO⟩
  have hr : iprop(ow c (recvHalf di (sl k) 0) fullShare.right (half 0 (val m di k (src di c)))
        ∗ ow c (recvHalf di (sl k) 1) fullShare.right (half 1 (val m di k (src di c))))
      ⊢ (ow c (recvWhole di (sl k)) fullShare.right (val m di k (src di c)) : sProp 𝕄) :=
    Entails.of_eq (recv_halves c di (sl k) fullShare.right (val m di k (src di c))).symm
  ihave Hr := hr $$ [Hv0 Hv1]
  · isplitl [Hv0] <;> iassumption
  have hw := st_startStore m κ c di st (by omega) Q
  rw [(st_of_landing m c di k st h hst).1, (st_of_landing m c di k st h hst).2] at hw
  iapply hw $$ [Hr Hst]
  · isplitr; · iexact Hx
    isplitl [Hst] <;> iassumption
  iintro Hst
  iapply Hk
  isplitr [HO]
  · isplitl [Hs]; · iexact Hs
    isplitl [HS0 HS1]; · isplitl [HS0] <;> iassumption
    isplitr; · isplitl [] <;> iassumption
    isplitl [Hc Hc' Hp0 Hp1 Hrp Hts Htr]
    · unfold Bank CR RR RP
      isplitl [Hc Hc']
      · isplitl [Hc']
        · iexact Hc'
        · iexact Hc
      isplitl [Hp0 Hp1 Hrp]
      · isplitl [Hrp]
        · iexact Hrp
        isplitl [Hp0]
        · iexact Hp0
        · iexact Hp1
      isplitl [Hts] <;> iassumption
    isplitl [Hcs] <;> iassumption
  iexact HO

/-- Drain after a gather stage that forwarded landing `k` and started its store. -/
theorem st_drainG (k st : ℕ) (hn : k + 1 < 12) (h : 3 ≤ k % 6) (h' : 4 ≤ (k + 1) % 6) (hst : st = 4 * (k / 6) + k % 6 - 2)
    (hL : L = crdL di k l) (hok : Ok 0 L) (Q : PUnit → sProp 𝕄) :
    iprop(ctx m κ ∗ GS m c di k st ∗ Ow c L)
      ⊢ iprop(((Idl m c di (k + 2) (k + 1) (k + 1) (st + 1) ∗ Keep c di k ∗ Ow c l) -∗ Q ⟨⟩) -∗ Wp c (drainG c di (k + 1) st) Q) := by
  unfold GS Idl drainG
  rw [if_neg (by omega), Nat.add_sub_cancel]
  iintro ⟨#Hx, ⟨Hs, HS, Hg, HB, Hc, Hst⟩, HO⟩ Hk
  iapply (st_waitHi m κ c di L k hn h' hok _ Q) $$ [HS HO]
  · isplitr; · iexact Hx
    isplitl [HS] <;> iassumption
  simp only [wp_bind]
  iintro ⟨HS, Hl, HO⟩
  have hw := fun Q => st_waitStore m κ c di L st (by omega) hok Q
  rw [(st_of_landing m c di k st h hst).1, (st_of_landing m c di k st h hst).2] at hw
  iapply (hw _) $$ [Hst HO]
  · isplitr; · iexact Hx
    isplitl [Hst] <;> iassumption
  iintro ⟨Hst, Hr, HO⟩
  iapply (st_give m κ c di L l k hL _) $$ [Hl Hr Hg Hc HO]
  · isplitr; · iexact Hx
    isplitl [Hl Hr Hg]
    · iapply (landed_join c di k _ _)
      isplitl [Hl Hr]; · isplitl [Hl] <;> iassumption
      iexact Hg
    isplitl [Hc] <;> iassumption
  iintro ⟨Hc, Hkp, HO⟩
  iapply Hk
  isplitr [Hkp HO]
  · isplitl [Hs]; · iexact Hs
    isplitl [HS]; · iexact HS
    isplitl [HB]; · iexact HB
    isplitl [Hc] <;> iassumption
  isplitl [Hkp] <;> iassumption

/-- The last gather stage of a pass. -/
theorem st_gatherC (k st : ℕ) (hn : k < 12) (h : k % 6 = 5) (hst : st = 4 * (k / 6) + k % 6 - 2) (hok : Ok (ixS di k) l) (Q : PUnit → sProp 𝕄) :
    iprop(ctx m κ ∗ Idl m c di (k + 1) k k st ∗ Ow c l)
      ⊢ iprop(((GC m c di k st ∗ Ow c l) -∗ Q ⟨⟩) -∗ Wp c (gatherC c di k st) Q) := by
  unfold Idl GC gatherC Bank RR RP
  rw [run_pop (tR c di) hn]
  unfold tR
  simp only [wp_bind]
  iintro ⟨#Hx, ⟨Hs, HS, ⟨Hcr, ⟨⟨Hp0, Hp1⟩, Hrp⟩, Hts, ⟨⟨Hu0, Hu1⟩, Htr⟩⟩, Hcs, Hst⟩, HO⟩ Hk
  iapply (wp_waitRecv m κ c di _ k 0 (by omega) hok _) $$ [Hp0 Hu0 HO]
  · isplitr; · iexact Hx
    isplitl [Hp0]; · iexact Hp0
    isplitl [Hu0] <;> iassumption
  iintro ⟨Hp0, Hv0, #Hg0, HO⟩
  iapply (wp_waitRecv m κ c di _ k 1 (by omega) hok _) $$ [Hp1 Hu1 HO]
  · isplitr; · iexact Hx
    isplitl [Hp1]; · iexact Hp1
    isplitl [Hu1] <;> iassumption
  iintro ⟨Hp1, Hv1, #Hg1, HO⟩
  have hr : iprop(ow c (recvHalf di (sl k) 0) fullShare (half 0 (val m di k (src di c)))
        ∗ ow c (recvHalf di (sl k) 1) fullShare (half 1 (val m di k (src di c))))
      ⊢ (ow c (recvWhole di (sl k)) fullShare (val m di k (src di c)) : sProp 𝕄) :=
    Entails.of_eq (recv_halves c di (sl k) fullShare (val m di k (src di c))).symm
  ihave Hr := hr $$ [Hv0 Hv1]
  · isplitl [Hv0] <;> iassumption
  ihave Hr := (ow_split c (recvWhole di (sl k)) fullShare _) $$ Hr
  icases Hr with ⟨Hl, Hr⟩
  have hw := st_startStore m κ c di st (by omega) Q
  rw [(st_of_landing m c di k st (by omega) hst).1, (st_of_landing m c di k st (by omega) hst).2] at hw
  iapply hw $$ [Hr Hst]
  · isplitr; · iexact Hx
    isplitl [Hst] <;> iassumption
  iintro Hst
  iapply Hk
  isplitr [HO]
  · isplitl [Hs]; · iexact Hs
    isplitl [HS]; · iexact HS
    isplitl [Hl]; · iexact Hl
    isplitr; · isplitl [] <;> iassumption
    isplitl [Hcr Hp0 Hp1 Hrp Hts Htr]
    · isplitl [Hcr]; · iexact Hcr
      isplitl [Hp0 Hp1 Hrp]
      · isplitl [Hrp]
        · iexact Hrp
        isplitl [Hp0]
        · iexact Hp0
        · iexact Hp1
      isplitl [Hts] <;> iassumption
    isplitl [Hcs] <;> iassumption
  iexact HO

/-- The last store of a pass is over. -/
theorem st_waitLast (k st : ℕ) (hn : k < 12) (h : k % 6 = 5) (hst : st = 4 * (k / 6) + k % 6 - 2) (hok : Ok 0 l) (Q : PUnit → sProp 𝕄) :
    iprop(ctx m κ ∗ GC m c di k st ∗ Ow c l)
      ⊢ iprop(((Idl m c di (k + 1) (k + 1) k (st + 1) ∗ Landed c di k ∗ Ow c l) -∗ Q ⟨⟩) -∗ Wp c (waitStore c di st) Q) := by
  unfold Idl GC
  iintro ⟨#Hx, ⟨Hs, HS, Hl, Hg, HB, Hcs, Hst⟩, HO⟩ Hk
  have hw := st_waitStore m κ c di l st (by omega) hok Q
  rw [(st_of_landing m c di k st (by omega) hst).1, (st_of_landing m c di k st (by omega) hst).2] at hw
  iapply hw $$ [Hst HO]
  · isplitr; · iexact Hx
    isplitl [Hst] <;> iassumption
  iintro ⟨Hst, Hr, HO⟩
  iapply Hk
  isplitr [Hl Hr Hg HO]
  · isplitl [Hs]; · iexact Hs
    isplitl [HS]; · iexact HS
    isplitl [HB]; · iexact HB
    isplitl [Hcs] <;> iassumption
  isplitr [HO]
  · iapply (landed_join c di k _ _)
    isplitl [Hl Hr]; · isplitl [Hl] <;> iassumption
    iexact Hg
  iexact HO

/-- The credit between the passes. -/
theorem st_giveMid (k st : ℕ) (hk : k < 10) (hL : L = crdL di k l) (Q : PUnit → sProp 𝕄) :
    iprop(ctx m κ ∗ Idl m c di (k + 1) (k + 1) k st ∗ Landed c di k ∗ Ow c L)
      ⊢ iprop(((Idl m c di (k + 1) (k + 1) (k + 1) st ∗ Ow c l) -∗ Q ⟨⟩) -∗ Wp c (giveCredit c di k) Q) := by
  unfold Idl
  iintro ⟨#Hx, ⟨Hs, HS, HB, Hcs, Hst⟩, HL, HO⟩ Hk
  iapply (st_give m κ c di L l k hL _) $$ [HL Hcs HO]
  · isplitr; · iexact Hx
    isplitl [HL]; · iexact HL
    isplitl [Hcs] <;> iassumption
  iintro ⟨Hcs, -, HO⟩
  iapply Hk
  isplitr [HO]
  · isplitl [Hs]; · iexact Hs
    isplitl [HS]; · iexact HS
    isplitl [HB]; · iexact HB
    isplitl [Hcs] <;> iassumption
  iexact HO

end Stages

end Cert.RingProof

end
-- ==== Proof.Chain.lean ====
/-
# The body

The stages of both directions chained into one rule for the body, at a symbolic device `c`.
-/
module

public import proofs.«01_k».proof.Proof.Stages

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig ℕ (Elt F) ℕ UU ℕ

variable (m : (ℓ : Loc nD τ sig) → Buf (Elt F) ℓ) (κ : Dev nD × Fin 26 → ℕ)

/-- The payments of the body, in the order it makes them. -/
def items : List Item :=
  [.bar 0, .bar 1,
   .snd 0 0 0, .snd 0 0 1, .snd 1 0 0, .snd 1 0 1,
   .snd 0 1 0, .snd 0 1 1, .snd 1 1 0, .snd 1 1 1,
   .crd 0 0, .snd 0 2 0, .snd 0 2 1, .crd 1 0, .snd 1 2 0, .snd 1 2 1,
   .crd 0 1, .snd 0 3 0, .snd 0 3 1, .crd 1 1, .snd 1 3 0, .snd 1 3 1,
   .crd 0 2, .crd 1 2, .snd 0 4 0, .snd 0 4 1, .snd 1 4 0, .snd 1 4 1,
   .crd 0 3, .crd 1 3, .snd 0 5 0, .snd 0 5 1, .snd 1 5 0, .snd 1 5 1,
   .crd 0 4, .crd 1 4,
   .crd 0 5, .snd 0 6 0, .snd 0 6 1, .crd 1 5, .snd 1 6 0, .snd 1 6 1,
   .snd 0 7 0, .snd 0 7 1, .snd 1 7 0, .snd 1 7 1,
   .crd 0 6, .snd 0 8 0, .snd 0 8 1, .crd 1 6, .snd 1 8 0, .snd 1 8 1,
   .crd 0 7, .snd 0 9 0, .snd 0 9 1, .crd 1 7, .snd 1 9 0, .snd 1 9 1,
   .crd 0 8, .crd 1 8, .snd 0 10 0, .snd 0 10 1, .snd 1 10 0, .snd 1 10 1,
   .crd 0 9, .crd 1 9, .snd 0 11 0, .snd 0 11 1, .snd 1 11 0, .snd 1 11 1,
   .fin 0, .fin 1]
/-- What is left of them after the first `j`. -/
def rest (j : ℕ) : List Item := items.drop j

/-! ## Stages of both directions -/

/-- The payment of the drain after reduce stage `n`. -/
def drL (di : Fin 2) (n : ℕ) (l : List Item) : List Item := if n % 6 = 0 then l else crdL di (n - 1) l

section Pairs
variable (c : Dev nD) (di : Fin 2) (L l : List Item)

/-- After reduce stage `n`. -/
def Rs (n : ℕ) : sProp 𝕄 := if n % 6 = 0 then R0 m c di n else R1 m c di (n - 1)
/-- When stage `n` is drained in the gather phase. -/
def Gs (n : ℕ) : sProp 𝕄 := if n % 6 = 3 then R1 m c di (n - 1) else GS m c di (n - 1) (4 * (n / 6) + n % 6 - 3)

theorem rs_start {n : ℕ} (h : n % 6 = 0) : R0 m c di n ⊢ (Rs m c di n : sProp 𝕄) := Entails.of_eq (if_pos h).symm
theorem rs_gs {n : ℕ} (h : n % 6 = 3) : Rs m c di n ⊢ (Gs m c di n : sProp 𝕄) :=
  Entails.of_eq ((if_neg (by omega)).trans (if_pos h).symm)

theorem st_drain (n : ℕ) (hn : n < 10) (h : n % 6 < 3) (hL : L = drL di n l) (hok : Ok 0 L) (Q : PUnit → sProp 𝕄) :
    iprop(ctx m κ ∗ Rs m c di n ∗ Ow c L)
      ⊢ iprop(((Idl m c di (n + 1) n n (4 * (n / 6)) ∗ Ow c l) -∗ Q ⟨⟩) -∗ Wp c (drainR c di n) Q) := by
  unfold Rs
  unfold drL at hL
  by_cases h0 : n % 6 = 0
  · rw [if_pos h0] at hL ⊢
    subst hL
    exact st_drain0 m κ c di L n (by omega) h0 hok Q
  · rw [if_neg h0] at hL ⊢
    obtain ⟨j, rfl⟩ : ∃ j, n = j + 1 := ⟨n - 1, by omega⟩
    exact st_drain1 m κ c di L l j (by omega) (by omega) hL (by omega) hok Q

theorem st_drainGG (n st : ℕ) (hn : n < 12) (h : 3 ≤ n % 6) (hst : st = 4 * (n / 6) + n % 6 - 3) (hL : L = crdL di (n - 1) l) (hok : Ok 0 L)
    (hok' : Ok 0 l) (Q : PUnit → sProp 𝕄) :
    iprop(ctx m κ ∗ Gs m c di n ∗ Ow c L)
      ⊢ iprop(((Idl m c di (n + 1) n n (st + 1) ∗ Keep c di (n - 1) ∗ Ow c l) -∗ Q ⟨⟩) -∗ Wp c (drainG c di n st) Q) := by
  unfold Gs
  obtain ⟨j, rfl⟩ : ∃ j, n = j + 1 := ⟨n - 1, by omega⟩
  by_cases h3 : (j + 1) % 6 = 3
  · rw [if_pos h3]
    iintro ⟨#Hx, HR, HO⟩ Hk
    iapply (st_drainG3 m κ c di L l j hn (by omega) hL (by omega) hok hok' st (by omega) Q) $$ [HR HO]
    · isplitr; · iexact Hx
      isplitl [HR]; · iexact HR
      iexact HO
    iintro ⟨HI, HO⟩
    iapply Hk
    isplitl [HI]; · iexact HI
    unfold Keep
    rw [if_pos (by omega)]
    isplitr; · iempintro
    iexact HO
  · rw [if_neg h3, ← hst]
    exact st_drainG m κ c di L l j st hn (by omega) (by omega) (by omega) hL hok Q

end Pairs

section Both
variable (c : Dev nD) (L0 L1 L2 L3 l : List Item)

/-- Reduce stage `j + 1`. -/
theorem st_redStage (j t : ℕ) (hj : j < 9) (h : j % 6 < 3) (ht : t = 4 * ((j + 1) / 6) + (j + 1) % 6)
    (h0 : L0 = drL 0 j L1) (h1 : L1 = .snd 0 (j + 1) 0 :: .snd 0 (j + 1) 1 :: L2)
    (h2 : L2 = drL 1 j L3) (h3 : L3 = .snd 1 (j + 1) 0 :: .snd 1 (j + 1) 1 :: l)
    (k0 : Ok 0 L0) (k2 : Ok 0 L2) (k1 : Ok (ixS 0 j) L1) (k1' : 2 ≤ j + 1 → Ok (ixC 0 (j + 1 - 2)) L1)
    (k3 : Ok (ixS 1 j) L3) (k3' : 2 ≤ j + 1 → Ok (ixC 1 (j + 1 - 2)) L3) (Q : PUnit → sProp 𝕄) :
    iprop(ctx m κ ∗ (Rs m c 0 j ∗ WAs m c 0 t) ∗ (Rs m c 1 j ∗ WAs m c 1 t) ∗ Xst m c ∗ Ow c L0)
      ⊢ iprop((((Rs m c 0 (j + 1) ∗ WAs m c 0 (t + 1)) ∗ (Rs m c 1 (j + 1) ∗ WAs m c 1 (t + 1)) ∗ Xst m c ∗ Ow c l) -∗ Q ⟨⟩)
          -∗ Wp c (reduceStage c (j + 1)) Q) := by
  subst ht
  unfold reduceStage
  rw [Nat.add_sub_cancel]
  simp only [wp_bind]
  rw [show Rs m c 0 (j + 1) = R1 m c 0 j from if_neg (by omega), show Rs m c 1 (j + 1) = R1 m c 1 j from if_neg (by omega)]
  iintro ⟨#Hx, ⟨HR0, HW0⟩, ⟨HR1, HW1⟩, HX, HO⟩ Hk
  iapply (st_mm m κ c 0 L0 _ (by omega) k0 _) $$ [HW0 HX HO]
  · isplitr; · iexact Hx
    isplitl [HW0]; · iexact HW0
    isplitl [HX] <;> iassumption
  iintro ⟨HW0, HX, HO⟩
  iapply (st_mm m κ c 1 L0 _ (by omega) k0 _) $$ [HW1 HX HO]
  · isplitr; · iexact Hx
    isplitl [HW1]; · iexact HW1
    isplitl [HX] <;> iassumption
  iintro ⟨HW1, HX, HO⟩
  iapply (st_drain m κ c 0 L0 L1 j (by omega) h h0 k0 _) $$ [HR0 HO]
  · isplitr; · iexact Hx
    isplitl [HR0] <;> iassumption
  iintro ⟨HR0, HO⟩
  rw [show 4 * (j / 6) = 4 * ((j + 1) / 6) by omega]
  iapply (st_reduce m κ c 0 L1 L2 j (by omega) h h1 k1 k1' _) $$ [HR0 HW0 HO]
  · isplitr; · iexact Hx
    isplitl [HR0]; · iexact HR0
    isplitl [HW0] <;> iassumption
  iintro ⟨HR0, HW0, HO⟩
  iapply (st_drain m κ c 1 L2 L3 j (by omega) h h2 k2 _) $$ [HR1 HO]
  · isplitr; · iexact Hx
    isplitl [HR1] <;> iassumption
  iintro ⟨HR1, HO⟩
  rw [show 4 * (j / 6) = 4 * ((j + 1) / 6) by omega]
  iapply (st_reduce m κ c 1 L3 l j (by omega) h h3 k3 k3' _) $$ [HR1 HW1 HO]
  · isplitr; · iexact Hx
    isplitl [HR1]; · iexact HR1
    isplitl [HW1] <;> iassumption
  iintro ⟨HR1, HW1, HO⟩
  iapply Hk
  isplitl [HR0 HW0]; · isplitl [HR0] <;> iassumption
  isplitl [HR1 HW1]; · isplitl [HR1] <;> iassumption
  isplitl [HX] <;> iassumption

/-- A gather stage that forwards landing `k`. -/
theorem st_gathStage (k st : ℕ) (hn : k + 1 < 12) (h : 3 ≤ k % 6) (h' : 4 ≤ (k + 1) % 6) (hst : st = 4 * (k / 6) + k % 6 - 2)
    (h0 : L0 = crdL 0 (k - 1) L1) (h1 : L1 = crdL 1 (k - 1) L2)
    (h2 : L2 = .snd 0 (k + 1) 0 :: .snd 0 (k + 1) 1 :: L3) (h3 : L3 = .snd 1 (k + 1) 0 :: .snd 1 (k + 1) 1 :: l)
    (k0 : Ok 0 L0) (k1 : Ok 0 L1) (k2 : Ok (ixS 0 k) L2) (k2' : 2 ≤ k + 1 → Ok (ixC 0 (k + 1 - 2)) L2)
    (k3 : Ok (ixS 1 k) L3) (k3' : 2 ≤ k + 1 → Ok (ixC 1 (k + 1 - 2)) L3) (Q : PUnit → sProp 𝕄) :
    iprop(ctx m κ ∗ Gs m c 0 k ∗ Gs m c 1 k ∗ Ow c L0)
      ⊢ iprop(((Gs m c 0 (k + 1) ∗ Gs m c 1 (k + 1) ∗ Ow c l) -∗ Q ⟨⟩) -∗ Wp c (gatherStage c k st) Q) := by
  have k2o : Ok 0 L2 := fun x hx => ⟨Nat.lt_of_le_of_lt (Nat.zero_le _) (k2 x hx).1, (k2 x hx).2⟩
  unfold gatherStage
  simp only [wp_bind]
  rw [show Gs m c 0 (k + 1) = GS m c 0 k st from (if_neg (by omega)).trans (by congr 1; omega),
    show Gs m c 1 (k + 1) = GS m c 1 k st from (if_neg (by omega)).trans (by congr 1; omega)]
  iintro ⟨#Hx, HG0, HG1, HO⟩ Hk
  iapply (st_drainGG m κ c 0 L0 L1 k (st - 1) (by omega) h (by omega) h0 k0 k1 _) $$ [HG0 HO]
  · isplitr; · iexact Hx
    isplitl [HG0] <;> iassumption
  iintro ⟨HG0, -, HO⟩
  iapply (st_drainGG m κ c 1 L1 L2 k (st - 1) (by omega) h (by omega) h1 k1 k2o _) $$ [HG1 HO]
  · isplitr; · iexact Hx
    isplitl [HG1] <;> iassumption
  iintro ⟨HG1, -, HO⟩
  rw [show st - 1 + 1 = st by omega]
  iapply (st_gatherB m κ c 0 L2 L3 k st hn h h' hst h2 k2 k2' _) $$ [HG0 HO]
  · isplitr; · iexact Hx
    isplitl [HG0] <;> iassumption
  iintro ⟨HG0, HO⟩
  iapply (st_gatherB m κ c 1 L3 l k st hn h h' hst h3 k3 k3' _) $$ [HG1 HO]
  · isplitr; · iexact Hx
    isplitl [HG1] <;> iassumption
  iintro ⟨HG1, HO⟩
  iapply Hk
  isplitl [HG0]; · iexact HG0
  isplitl [HG1] <;> iassumption

end Both

/-! ## The passes -/

section Passes
variable (c : Dev nD)

/-- The first pass, from after the barrier. -/
theorem st_pass0 (Q : FVec F S4096x512 .bf16 × FVec F S4096x512 .bf16 → sProp 𝕄) :
    iprop(ctx m κ ∗ (Idl m c 0 0 0 0 0 ∗ WAs m c 0 0) ∗ (Idl m c 1 0 0 0 0 ∗ WAs m c 1 0) ∗ Xst m c ∗ Ow c (rest 2))
      ⊢ iprop((((GC m c 0 5 3 ∗ WBs m c 0 4) ∗ (GC m c 1 5 3 ∗ WBs m c 1 4) ∗ Xst m c ∗ Ow c (rest 36)) -∗ Q (part m 0 4 c, part m 1 4 c))
          -∗ Wp c (pass0 c) Q) := by
  unfold pass0
  simp only [wp_bind]
  iintro ⟨#Hx, ⟨HI0, HW0⟩, ⟨HI1, HW1⟩, HX, HO⟩ Hk
  iapply (st_mm m κ c 0 (rest 2) 0 (by omega) (by decide) _) $$ [HW0 HX HO]
  · isplitr; · iexact Hx
    isplitl [HW0]; · iexact HW0
    isplitl [HX] <;> iassumption
  iintro ⟨HW0, HX, HO⟩
  iapply (st_startA m κ c 0 (rest 2) (rest 4) 0 (by omega) (by omega) rfl (by decide) _) $$ [HI0 HW0 HO]
  · isplitr; · iexact Hx
    isplitl [HI0]; · iexact HI0
    isplitl [HW0] <;> iassumption
  iintro ⟨HI0, HW0, HO⟩
  iapply (st_mm m κ c 1 (rest 4) 0 (by omega) (by decide) _) $$ [HW1 HX HO]
  · isplitr; · iexact Hx
    isplitl [HW1]; · iexact HW1
    isplitl [HX] <;> iassumption
  iintro ⟨HW1, HX, HO⟩
  iapply (st_startA m κ c 1 (rest 4) (rest 6) 0 (by omega) (by omega) rfl (by decide) _) $$ [HI1 HW1 HO]
  · isplitr; · iexact Hx
    isplitl [HI1]; · iexact HI1
    isplitl [HW1] <;> iassumption
  iintro ⟨HI1, HW1, HO⟩
  iapply (st_redStage m κ c (rest 6) (rest 6) (rest 8) (rest 8) (rest 10) 0 1 (by omega) (by omega) rfl rfl rfl rfl rfl
    (by decide) (by decide) (by decide) (by decide) (by decide) (by decide) _) $$ [HI0 HW0 HI1 HW1 HX HO]
  · isplitr; · iexact Hx
    isplitl [HI0 HW0]
    · isplitl [HI0]
      · iapply (rs_start m c 0 (by omega)); iexact HI0
      iexact HW0
    isplitl [HI1 HW1]
    · isplitl [HI1]
      · iapply (rs_start m c 1 (by omega)); iexact HI1
      iexact HW1
    isplitl [HX] <;> iassumption
  iintro ⟨H0, H1, HX, HO⟩
  iapply (st_redStage m κ c (rest 10) (rest 11) (rest 13) (rest 14) (rest 16) 1 2 (by omega) (by omega) rfl rfl rfl rfl rfl
    (by decide) (by decide) (by decide) (by decide) (by decide) (by decide) _) $$ [H0 H1 HX HO]
  · isplitr; · iexact Hx
    isplitl [H0]; · iexact H0
    isplitl [H1]; · iexact H1
    isplitl [HX] <;> iassumption
  iintro ⟨H0, H1, HX, HO⟩
  iapply (st_redStage m κ c (rest 16) (rest 17) (rest 19) (rest 20) (rest 22) 2 3 (by omega) (by omega) rfl rfl rfl rfl rfl
    (by decide) (by decide) (by decide) (by decide) (by decide) (by decide) _) $$ [H0 H1 HX HO]
  · isplitr; · iexact Hx
    isplitl [H0]; · iexact H0
    isplitl [H1]; · iexact H1
    isplitl [HX] <;> iassumption
  iintro ⟨⟨H0, HW0⟩, ⟨H1, HW1⟩, HX, HO⟩
  iapply (st_gathStage m κ c (rest 22) (rest 23) (rest 24) (rest 26) (rest 28) 3 1 (by omega) (by omega) (by omega) rfl rfl rfl rfl rfl
    (by decide) (by decide) (by decide) (by decide) (by decide) (by decide) _) $$ [H0 H1 HO]
  · isplitr; · iexact Hx
    isplitl [H0]; · iapply (rs_gs m c 0 (by omega)); iexact H0
    isplitl [H1]; · iapply (rs_gs m c 1 (by omega)); iexact H1
    iexact HO
  iintro ⟨H0, H1, HO⟩
  iapply (st_gathStage m κ c (rest 28) (rest 29) (rest 30) (rest 32) (rest 34) 4 2 (by omega) (by omega) (by omega) rfl rfl rfl rfl rfl
    (by decide) (by decide) (by decide) (by decide) (by decide) (by decide) _) $$ [H0 H1 HO]
  · isplitr; · iexact Hx
    isplitl [H0]; · iexact H0
    isplitl [H1]; · iexact H1
    iexact HO
  iintro ⟨H0, H1, HO⟩
  iapply (st_drainGG m κ c 0 (rest 34) (rest 35) 5 2 (by omega) (by omega) rfl rfl (by decide) (by decide) _) $$ [H0 HO]
  · isplitr; · iexact Hx
    isplitl [H0] <;> iassumption
  iintro ⟨H0, -, HO⟩
  iapply (st_mm m κ c 0 (rest 35) 4 (by omega) (by decide) _) $$ [HW0 HX HO]
  · isplitr; · iexact Hx
    isplitl [HW0]; · iexact HW0
    isplitl [HX] <;> iassumption
  iintro ⟨HW0, HX, HO⟩
  iapply (st_drainGG m κ c 1 (rest 35) (rest 36) 5 2 (by omega) (by omega) rfl rfl (by decide) (by decide) _) $$ [H1 HO]
  · isplitr; · iexact Hx
    isplitl [H1] <;> iassumption
  iintro ⟨H1, -, HO⟩
  iapply (st_mm m κ c 1 (rest 36) 4 (by omega) (by decide) _) $$ [HW1 HX HO]
  · isplitr; · iexact Hx
    isplitl [HW1]; · iexact HW1
    isplitl [HX] <;> iassumption
  iintro ⟨HW1, HX, HO⟩
  iapply (st_gatherC m κ c 0 (rest 36) 5 3 (by omega) (by omega) rfl (by decide) _) $$ [H0 HO]
  · isplitr; · iexact Hx
    isplitl [H0] <;> iassumption
  iintro ⟨H0, HO⟩
  iapply (st_gatherC m κ c 1 (rest 36) 5 3 (by omega) (by omega) rfl (by decide) _) $$ [H1 HO]
  · isplitr; · iexact Hx
    isplitl [H1] <;> iassumption
  iintro ⟨H1, HO⟩
  iapply (wp_pure c _ Q)
  iapply Hk
  isplitl [H0 HW0]; · isplitl [H0] <;> iassumption
  isplitl [H1 HW1]; · isplitl [H1] <;> iassumption
  isplitl [HX] <;> iassumption

/-- What a direction is left with. -/
def DirEnd (di : Fin 2) : sProp 𝕄 := iprop((Idl m c di 12 12 11 8 ∗ Landed c di 11) ∗ Keep c di 10 ∗ WAs m c di 8)

/-- The second pass. -/
theorem st_pass1 (Q : PUnit → sProp 𝕄) :
    iprop(ctx m κ ∗ (GC m c 0 5 3 ∗ WBs m c 0 4) ∗ (GC m c 1 5 3 ∗ WBs m c 1 4) ∗ Xst m c ∗ Ow c (rest 36))
      ⊢ iprop(((DirEnd m c 0 ∗ DirEnd m c 1 ∗ Xst m c ∗ Ow c (rest 70)) -∗ Q ⟨⟩)
          -∗ Wp c (pass1 c (part m 0 4 c) (part m 1 4 c)) Q) := by
  unfold pass1
  simp only [wp_bind]
  iintro ⟨#Hx, ⟨H0, HW0⟩, ⟨H1, HW1⟩, HX, HO⟩ Hk
  iapply (st_waitLast m κ c 0 (rest 36) 5 3 (by omega) (by omega) rfl (by decide) _) $$ [H0 HO]
  · isplitr; · iexact Hx
    isplitl [H0] <;> iassumption
  iintro ⟨HI0, HL, HO⟩
  iapply (st_giveMid m κ c 0 (rest 36) (rest 37) 5 4 (by omega) rfl _) $$ [HI0 HL HO]
  · isplitr; · iexact Hx
    isplitl [HI0]; · iexact HI0
    isplitl [HL] <;> iassumption
  iintro ⟨HI0, HO⟩
  iapply (st_startA m κ c 0 (rest 37) (rest 39) 6 (by omega) (by omega) rfl (by decide) _) $$ [HI0 HW0 HO]
  · isplitr; · iexact Hx
    isplitl [HI0]; · iexact HI0
    isplitl [HW0] <;> iassumption
  iintro ⟨HI0, HW0, HO⟩
  iapply (st_waitLast m κ c 1 (rest 39) 5 3 (by omega) (by omega) rfl (by decide) _) $$ [H1 HO]
  · isplitr; · iexact Hx
    isplitl [H1] <;> iassumption
  iintro ⟨HI1, HL, HO⟩
  iapply (st_giveMid m κ c 1 (rest 39) (rest 40) 5 4 (by omega) rfl _) $$ [HI1 HL HO]
  · isplitr; · iexact Hx
    isplitl [HI1]; · iexact HI1
    isplitl [HL] <;> iassumption
  iintro ⟨HI1, HO⟩
  iapply (st_startA m κ c 1 (rest 40) (rest 42) 6 (by omega) (by omega) rfl (by decide) _) $$ [HI1 HW1 HO]
  · isplitr; · iexact Hx
    isplitl [HI1]; · iexact HI1
    isplitl [HW1] <;> iassumption
  iintro ⟨HI1, HW1, HO⟩
  iapply (st_redStage m κ c (rest 42) (rest 42) (rest 44) (rest 44) (rest 46) 6 5 (by omega) (by omega) rfl rfl rfl rfl rfl
    (by decide) (by decide) (by decide) (by decide) (by decide) (by decide) _) $$ [HI0 HW0 HI1 HW1 HX HO]
  · isplitr; · iexact Hx
    isplitl [HI0 HW0]
    · isplitl [HI0]
      · iapply (rs_start m c 0 (by omega)); iexact HI0
      iexact HW0
    isplitl [HI1 HW1]
    · isplitl [HI1]
      · iapply (rs_start m c 1 (by omega)); iexact HI1
      iexact HW1
    isplitl [HX] <;> iassumption
  iintro ⟨H0, H1, HX, HO⟩
  iapply (st_redStage m κ c (rest 46) (rest 47) (rest 49) (rest 50) (rest 52) 7 6 (by omega) (by omega) rfl rfl rfl rfl rfl
    (by decide) (by decide) (by decide) (by decide) (by decide) (by decide) _) $$ [H0 H1 HX HO]
  · isplitr; · iexact Hx
    isplitl [H0]; · iexact H0
    isplitl [H1]; · iexact H1
    isplitl [HX] <;> iassumption
  iintro ⟨H0, H1, HX, HO⟩
  iapply (st_redStage m κ c (rest 52) (rest 53) (rest 55) (rest 56) (rest 58) 8 7 (by omega) (by omega) rfl rfl rfl rfl rfl
    (by decide) (by decide) (by decide) (by decide) (by decide) (by decide) _) $$ [H0 H1 HX HO]
  · isplitr; · iexact Hx
    isplitl [H0]; · iexact H0
    isplitl [H1]; · iexact H1
    isplitl [HX] <;> iassumption
  iintro ⟨⟨H0, HW0⟩, ⟨H1, HW1⟩, HX, HO⟩
  iapply (st_gathStage m κ c (rest 58) (rest 59) (rest 60) (rest 62) (rest 64) 9 5 (by omega) (by omega) (by omega) rfl rfl rfl rfl rfl
    (by decide) (by decide) (by decide) (by decide) (by decide) (by decide) _) $$ [H0 H1 HO]
  · isplitr; · iexact Hx
    isplitl [H0]; · iapply (rs_gs m c 0 (by omega)); iexact H0
    isplitl [H1]; · iapply (rs_gs m c 1 (by omega)); iexact H1
    iexact HO
  iintro ⟨H0, H1, HO⟩
  iapply (st_gathStage m κ c (rest 64) (rest 65) (rest 66) (rest 68) (rest 70) 10 6 (by omega) (by omega) (by omega) rfl rfl rfl rfl rfl
    (by decide) (by decide) (by decide) (by decide) (by decide) (by decide) _) $$ [H0 H1 HO]
  · isplitr; · iexact Hx
    isplitl [H0]; · iexact H0
    isplitl [H1]; · iexact H1
    iexact HO
  iintro ⟨H0, H1, HO⟩
  iapply (st_drainGG m κ c 0 (rest 70) (rest 70) 11 6 (by omega) (by omega) rfl rfl (by decide) (by decide) _) $$ [H0 HO]
  · isplitr; · iexact Hx
    isplitl [H0] <;> iassumption
  iintro ⟨H0, HK0, HO⟩
  iapply (st_drainGG m κ c 1 (rest 70) (rest 70) 11 6 (by omega) (by omega) rfl rfl (by decide) (by decide) _) $$ [H1 HO]
  · isplitr; · iexact Hx
    isplitl [H1] <;> iassumption
  iintro ⟨H1, HK1, HO⟩
  iapply (st_gatherC m κ c 0 (rest 70) 11 7 (by omega) (by omega) rfl (by decide) _) $$ [H0 HO]
  · isplitr; · iexact Hx
    isplitl [H0] <;> iassumption
  iintro ⟨H0, HO⟩
  iapply (st_gatherC m κ c 1 (rest 70) 11 7 (by omega) (by omega) rfl (by decide) _) $$ [H1 HO]
  · isplitr; · iexact Hx
    isplitl [H1] <;> iassumption
  iintro ⟨H1, HO⟩
  iapply (st_waitLast m κ c 0 (rest 70) 11 7 (by omega) (by omega) rfl (by decide) _) $$ [H0 HO]
  · isplitr; · iexact Hx
    isplitl [H0] <;> iassumption
  iintro ⟨H0, HL0, HO⟩
  iapply (st_waitLast m κ c 1 (rest 70) 11 7 (by omega) (by omega) rfl (by decide) _) $$ [H1 HO]
  · isplitr; · iexact Hx
    isplitl [H1] <;> iassumption
  iintro ⟨H1, HL1, HO⟩
  iapply Hk
  unfold DirEnd
  isplitl [H0 HL0 HK0 HW0]
  · isplitl [H0 HL0]; · isplitl [H0] <;> iassumption
    isplitl [HK0] <;> iassumption
  isplitl [H1 HL1 HK1 HW1]
  · isplitl [H1 HL1]; · isplitl [H1] <;> iassumption
    isplitl [HK1] <;> iassumption
  isplitl [HX] <;> iassumption

end Passes

/-! ## The two barriers -/

theorem cred_two (g : GSem nD τ sig) (b : ℕ) : iprop(cred (tallyAt g b 1) ∗ cred (tallyAt g b 1)) ⊢ (cred (tallyAt g b 2) : sProp 𝕄) := by
  have h := (cred_add (nD := nD) (τ := τ) (sig := sig) (Val := Elt F) (Name := ℕ) (U := UU) (Lvl := ℕ) (tallyAt g b 1) (tallyAt g b 1)).2
  rw [tallyAt_add] at h
  exact h

/-- A wait for both neighbours. -/
theorem wait_both (c : Dev nD) (sm : Sem sig) (hin : InRing (.reg sm)) (b : ℕ) (l : List Item) (hN : amountK (kindOf (.reg sm)) = 1)
    (hd : dutiesK (kindOf (.reg sm)) 0 = Finset.univ) (hb : b < 100) (hok : Ok b l) (Q : PUnit → sProp 𝕄) :
    iprop(ctx m κ ∗ (cred (tallyAt ((c : Thread nD τ), .reg sm) b 1) ∗ cred (tallyAt ((c : Thread nD τ), .reg sm) b 1)) ∗ Ow c l
        ∗ atPos ER ((c : Thread nD τ), .reg sm) 0 ∅ 0)
      ⊢ iprop(((Ow c l ∗ atPos ER ((c : Thread nD τ), .reg sm) 1 ∅ 0
            ∗ payloadK m c (kindOf (.reg sm)) 0 0 ∗ payloadK m c (kindOf (.reg sm)) 0 1) -∗ Q ⟨⟩)
          -∗ Wp c (semWaitWord sm 2#32) Q) := by
  unfold Ow
  iintro ⟨#Hx, Hc, ⟨%W, HO⟩, Hp⟩ Hk
  ihave Hc := (cred_two ((c : Thread nD τ), .reg sm) b) $$ Hc
  simp only [semWaitWord, Prog.lift]
  iapply (Rounds.wp_wait_rest_token 𝒱₀ ER (ringRd m) (c : Thread nD τ) none (κ := κ (c, idxOf (.reg sm))) (wpE_semWait_eq 𝒱₀ (c : Thread nD τ) none Set.univ)
      (Set.mem_univ _) b (O := dues c l) (W := W)
      (R := 0) (m := 0) (T := ∅) (by rw [Nat.zero_add, expect_two m ((c : Thread nD τ), .reg sm) hd hN]; rfl)) $$ [Hc HO Hp]
  · isplitr; · iapply (ctx_inv m κ c _ hin); iexact Hx
    isplitl [Hc]; · iexact Hc
    isplitl [HO]; · iexact HO
    isplitr; · iapply (may m κ c _ b hb l hok); iexact Hx
    iexact Hp
  iintro ⟨HO, Hp, -, Hpay⟩
  rw [wp_ret]; imodintro
  ihave Hq := (Entails.of_eq (rest_two m ((c : Thread nD τ), .reg sm) hd)) $$ Hpay
  iapply Hk
  isplitl [HO]; · iexists _; iexact HO
  isplitl [Hp]; · iexact Hp
  iexact Hq

section Begin
variable (c : Dev nD) (di : Fin 2)

/-- What send `n` has of its slot at the launch. -/
def PreL (n : ℕ) : sProp 𝕄 := if n < 2 then iprop(emp) else cred (tallyAt (credC c di (sl n)) (ixC di (n - 2)) 1)
def tL (n : ℕ) : sProp 𝕄 := iprop((tSend c di n 0 ∗ tSend c di n 1) ∗ PreL c di n)

/-- What a direction has at the launch, its own memory apart. -/
def Bank0 : sProp 𝕄 := iprop(CR c di 0 ∗ RR c di 0 ∗ run (tL c di) 12 0 ∗ run (tR c di) 12 0)
def DirBegin : sProp 𝕄 :=
  iprop((owAny c (sendWhole di) ∗ SS c di 0 ∗ Bank0 c di ∗ Crds c di 0 ∗ STs m c di 0) ∗ (WFree c di 0 ∗ WFree c di 1 ∗ run (tW m c di) 8 0)
    ∗ barPay c di ∗ (dutyTok ER (barC (src di c)) 0 di ∗ dutyTok ER (endC (src di c)) 0 di)
    ∗ (cred (tallyAt (barC c) 1 1) ∗ cred (tallyAt (endC c) 90 1)))

theorem runFrom_congr {P P' : ℕ → sProp 𝕄} (f n : ℕ) (h : ∀ k, n ≤ k → P k = P' k) : runFrom P f n = runFrom P' f n := by
  induction f generalizing n with
  | zero => rfl
  | succ f ih => unfold runFrom; rw [h n le_rfl, ih (n + 1) fun k hk => h k (by omega)]

/-- The neighbour's slots make the first two sends ready. -/
theorem open_slots : iprop(ctx m κ ∗ Bank0 c di ∗ barPay (dst di c) di) ⊢ Bank c di 0 0 := by
  have hr : run (tL c di) 12 2 = (run (tS c di) 12 2 : sProp 𝕄) := runFrom_congr _ _ fun k hk => by
    unfold tL tS PreL Pre; rw [if_neg (by omega), if_neg (by omega)]
  unfold Bank0 Bank barPay
  rw [run_pop (tL c di) (show 0 < 12 by omega), run_pop (tL c di) (show 0 + 1 < 12 by omega), show 0 + 1 + 1 = 2 from rfl, hr,
    run_pop (tS c di) (show 0 < 12 by omega), run_pop (tS c di) (show 0 + 1 < 12 by omega)]
  unfold tL tS PreL Pre
  rw [if_pos (show 0 < 2 by omega), if_pos (show 0 + 1 < 2 by omega), if_pos (show 0 < 2 by omega), if_pos (show 0 + 1 < 2 by omega)]
  unfold Slot
  iintro ⟨#Hx, ⟨Hc, Hr, ⟨⟨Ht0, -⟩, ⟨Ht1, -⟩, Ht⟩, Hu⟩, ⟨⟨Ha, Hb⟩, ⟨Hd, He⟩⟩⟩
  isplitl [Hc]; · iexact Hc
  isplitl [Hr]; · iexact Hr
  isplitr [Hu]
  · isplitl [Ht0 Ha Hb]
    · isplitl [Ht0]; · iexact Ht0
      isplitl [Ha]; · iexact Ha
      isplitl [Hb]; · iexact Hb
      isplitr; · iapply (ctx_reached m κ (dst di c) _ (in_recv di 0 0)); iexact Hx
      isplitr; · iapply (ctx_reached m κ (dst di c) _ (in_recv di 0 1)); iexact Hx
      iapply (ctx_reached m κ c _ (in_cred di 0)); iexact Hx
    isplitr [Ht]
    · isplitl [Ht1]; · iexact Ht1
      isplitl [Hd]; · iexact Hd
      isplitl [He]; · iexact He
      isplitr; · iapply (ctx_reached m κ (dst di c) _ (in_recv di 1 0)); iexact Hx
      isplitr; · iapply (ctx_reached m κ (dst di c) _ (in_recv di 1 1)); iexact Hx
      iapply (ctx_reached m κ c _ (in_cred di 1)); iexact Hx
    iexact Ht
  iexact Hu

/-- The first two fetches. -/
theorem open_w (t : ℕ) : iprop(WBusy c di 0 ∗ WBusy c di 1 ∗ run (tW m c di) 8 2) ⊢ (WAs m c di 0 : sProp 𝕄) :=
  Entails.of_eq rfl

end Begin

/-- The body: from the launch's resources to the end of every round. -/
theorem wp_body (c : Dev nD) (Q : PUnit → sProp 𝕄) :
    iprop(ctx m κ ∗ DirBegin m c 0 ∗ DirBegin m c 1 ∗ (atPos ER (barC c) 0 ∅ 0 ∗ atPos ER (endC c) 0 ∅ 0) ∗ Xst m c ∗ Ow c (rest 0))
      ⊢ iprop(((DirEnd m c 0 ∗ DirEnd m c 1 ∗ (atPos ER (barC c) 1 ∅ 0 ∗ atPos ER (endC c) 1 ∅ 0) ∗ Xst m c ∗ Ow c []) -∗ Q ⟨⟩)
          -∗ Wp c body Q) := by
  unfold body entry exit DirBegin
  rw [run_pop (tW m c 0) (show 0 < 8 by omega), run_pop (tW m c 0) (show 0 + 1 < 8 by omega),
    run_pop (tW m c 1) (show 0 < 8 by omega), run_pop (tW m c 1) (show 0 + 1 < 8 by omega)]
  simp only [wp_bind, Prog.lift, wp_deviceId]
  iintro ⟨#Hx, ⟨⟨Hs0, HS0, HB0, Hc0, Ht0⟩, ⟨Hw00, Hw01, Hu00, Hu01, Hu0⟩, Hp0, ⟨Hb0, Hf0⟩, Hcb0, Hcf0⟩,
    ⟨⟨Hs1, HS1, HB1, Hc1, Ht1⟩, ⟨Hw10, Hw11, Hu10, Hu11, Hu1⟩, Hp1, ⟨Hb1, Hf1⟩, Hcb1, Hcf1⟩, ⟨Hab, Hae⟩, HX, HO⟩ Hk
  rw [wp_ret]; imodintro
  iapply (signal_one m κ c (src 0 c) barS in_bar 0 1 0 rfl (by decide) (.bar 0) (rest 1) rfl rfl rfl rfl _) $$ [Hp0 Hb0 HO]
  · isplitr; · iexact Hx
    isplitl [HO]; · iexact HO
    isplitl [Hb0]; · iexact Hb0
    isplitl [Hp0]
    · iapply (Entails.of_eq (show barPay c 0 = payloadK m (src 0 c) (kindOf (.reg barS)) 0 0 from
        (congrArg (fun e => barPay e 0) (dst_src 0 c).symm))); iexact Hp0
    iapply (ctx_reached m κ (src 0 c) _ in_bar); iexact Hx
  iintro HO
  iapply (signal_one m κ c (src 1 c) barS in_bar 0 1 1 rfl (by decide) (.bar 1) (rest 2) rfl rfl rfl rfl _) $$ [Hp1 Hb1 HO]
  · isplitr; · iexact Hx
    isplitl [HO]; · iexact HO
    isplitl [Hb1]; · iexact Hb1
    isplitl [Hp1]
    · iapply (Entails.of_eq (show barPay c 1 = payloadK m (src 1 c) (kindOf (.reg barS)) 0 1 from
        (congrArg (fun e => barPay e 1) (dst_src 1 c).symm))); iexact Hp1
    iapply (ctx_reached m κ (src 1 c) _ in_bar); iexact Hx
  iintro HO
  iapply (wait_both m κ c barS in_bar 1 (rest 2) rfl rfl (by decide) (by decide) _) $$ [Hcb0 Hcb1 HO Hab]
  · isplitr; · iexact Hx
    isplitl [Hcb0 Hcb1]; · isplitl [Hcb0] <;> iassumption
    isplitl [HO] <;> iassumption
  iintro ⟨HO, Hab, Hq0, Hq1⟩
  ihave Hq0 := (Entails.of_eq (show payloadK m c (kindOf (.reg barS)) 0 0 = barPay (dst 0 c) 0 from rfl)) $$ Hq0
  ihave Hq1 := (Entails.of_eq (show payloadK m c (kindOf (.reg barS)) 0 1 = barPay (dst 1 c) 1 from rfl)) $$ Hq1
  iapply (wp_fetchW m κ c 0 0 (by omega) _) $$ [Hw00 Hu00]
  · isplitr; · iexact Hx
    isplitl [Hw00] <;> iassumption
  iintro Hw00
  iapply (wp_fetchW m κ c 0 1 (by omega) _) $$ [Hw01 Hu01]
  · isplitr; · iexact Hx
    isplitl [Hw01] <;> iassumption
  iintro Hw01
  iapply (wp_fetchW m κ c 1 0 (by omega) _) $$ [Hw10 Hu10]
  · isplitr; · iexact Hx
    isplitl [Hw10] <;> iassumption
  iintro Hw10
  iapply (wp_fetchW m κ c 1 1 (by omega) _) $$ [Hw11 Hu11]
  · isplitr; · iexact Hx
    isplitl [Hw11] <;> iassumption
  iintro Hw11
  ihave HB0 := (open_slots m κ c 0) $$ [HB0 Hq0]
  · isplitr; · iexact Hx
    isplitl [HB0]; · iexact HB0
    iexact Hq0
  ihave HB1 := (open_slots m κ c 1) $$ [HB1 Hq1]
  · isplitr; · iexact Hx
    isplitl [HB1]; · iexact HB1
    iexact Hq1
  iapply (st_pass0 m κ c _) $$ [Hs0 HS0 HB0 Hc0 Ht0 Hw00 Hw01 Hu0 Hs1 HS1 HB1 Hc1 Ht1 Hw10 Hw11 Hu1 HX HO]
  · isplitr; · iexact Hx
    unfold Idl
    isplitl [Hs0 HS0 HB0 Hc0 Ht0 Hw00 Hw01 Hu0]
    · isplitl [Hs0 HS0 HB0 Hc0 Ht0]
      · isplitl [Hs0]; · iexact Hs0
        isplitl [HS0]; · iexact HS0
        isplitl [HB0]; · iexact HB0
        isplitl [Hc0] <;> iassumption
      iapply (open_w m c 0 0)
      isplitl [Hw00]; · iexact Hw00
      isplitl [Hw01] <;> iassumption
    isplitl [Hs1 HS1 HB1 Hc1 Ht1 Hw10 Hw11 Hu1]
    · isplitl [Hs1 HS1 HB1 Hc1 Ht1]
      · isplitl [Hs1]; · iexact Hs1
        isplitl [HS1]; · iexact HS1
        isplitl [HB1]; · iexact HB1
        isplitl [Hc1] <;> iassumption
      iapply (open_w m c 1 0)
      isplitl [Hw10]; · iexact Hw10
      isplitl [Hw11] <;> iassumption
    isplitl [HX] <;> iassumption
  iintro ⟨H0, H1, HX, HO⟩
  iapply (st_pass1 m κ c _) $$ [H0 H1 HX HO]
  · isplitr; · iexact Hx
    isplitl [H0]; · iexact H0
    isplitl [H1]; · iexact H1
    isplitl [HX] <;> iassumption
  iintro ⟨H0, H1, HX, HO⟩
  iapply (signal_one m κ c (src 0 c) endS in_fin 0 90 0 rfl (by decide) (.fin 0) (rest 71) rfl rfl rfl rfl _) $$ [Hf0 HO]
  · isplitr; · iexact Hx
    isplitl [HO]; · iexact HO
    isplitl [Hf0]; · iexact Hf0
    isplitr
    · iapply (Entails.of_eq (show iprop(emp) = payloadK m (src 0 c) (kindOf (.reg endS)) 0 0 from rfl)); iempintro
    iapply (ctx_reached m κ (src 0 c) _ in_fin); iexact Hx
  iintro HO
  iapply (signal_one m κ c (src 1 c) endS in_fin 0 90 1 rfl (by decide) (.fin 1) [] rfl rfl rfl rfl _) $$ [Hf1 HO]
  · isplitr; · iexact Hx
    isplitl [HO]; · iexact HO
    isplitl [Hf1]; · iexact Hf1
    isplitr
    · iapply (Entails.of_eq (show iprop(emp) = payloadK m (src 1 c) (kindOf (.reg endS)) 0 1 from rfl)); iempintro
    iapply (ctx_reached m κ (src 1 c) _ in_fin); iexact Hx
  iintro HO
  iapply (wait_both m κ c endS in_fin 90 [] rfl rfl (by decide) (by decide) _) $$ [Hcf0 Hcf1 HO Hae]
  · isplitr; · iexact Hx
    isplitl [Hcf0 Hcf1]; · isplitl [Hcf0] <;> iassumption
    isplitl [HO] <;> iassumption
  iintro ⟨HO, Hae, -, -⟩
  iapply Hk
  isplitl [H0]; · iexact H0
  isplitl [H1]; · iexact H1
  isplitl [Hab Hae]; · isplitl [Hab] <;> iassumption
  isplitl [HX] <;> iassumption

end Cert.RingProof

end
-- ==== Proof.Mem.lean ====
/-
# The buffers in pieces

Each buffer the body works on is the disjoint union of the pieces its transfers name: the scratch buffers by direction and
slot, the weights and the result by blocks of 512 columns, each block once per device. What a device is given at the launch
is dealt to the pieces, and put together again at the end.
-/
module

public import proofs.«01_k».proof.Proof.Chain

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig ℕ (Elt F) ℕ UU ℕ

/-! ## Whole buffers and their pieces -/

section Pieces

variable {T : Type} [Fintype T] [DecidableEq T] {ℓ : Loc nD τ sig} {K : T → Finset (Idx ℓ)}

theorem union_univ (hc : ∀ i, ∃ t, i ∈ K t) : (Finset.univ : Finset T).biUnion K = Finset.univ :=
  Finset.eq_univ_of_forall fun i => Finset.mem_biUnion.2 ((hc i).imp fun t h => ⟨Finset.mem_univ _, h⟩)

/-- A buffer is its pieces. -/
theorem whole_split (hd : ∀ t t', t ≠ t' → Disjoint (K t) (K t')) (hc : ∀ i, ∃ t, i ∈ K t) (q : PosShare TreeShare) (f : Buf (Elt F) ℓ) :
    (ℓ ↦{q} f : sProp 𝕄) = bigSep Finset.univ fun t => ℓ ↦[K t]{q} f := by
  rw [← pointsTo_biUnion Finset.univ K (fun t _ t' _ h => hd t t' h), union_univ hc]

/-- Pieces that hold anything make a buffer that holds something. -/
theorem whole_join (hd : ∀ t t', t ≠ t' → Disjoint (K t) (K t')) (hc : ∀ i, ∃ t, i ∈ K t) (q : PosShare TreeShare) (t0 : T)
    (f0 : Buf (Elt F) ℓ) :
    (bigSep Finset.univ fun t => iprop(∃ f, ℓ ↦[K t]{q} f)) ⊢ (iprop(∃ f, ℓ ↦{q} f) : sProp 𝕄) := by
  haveI : Nonempty (Buf (Elt F) ℓ) := ⟨f0⟩
  have h2 : ∀ fs : T → Buf (Elt F) ℓ, (bigSep Finset.univ fun t => (ℓ ↦[K t]{q} fs t : sProp 𝕄)) ⊢ iprop(∃ f, ℓ ↦{q} f) := by
    intro fs
    refine (pointsTo_biUnion_join Finset.univ K fs (fs t0) (fun t _ t' _ h => hd t t' h)).trans ?_
    rw [union_univ hc]
    iintro ⟨%g, %hg, H⟩
    iexists g; iexact H
  refine (BI.bigSep_exists_pi Finset.univ fun t f => (ℓ ↦[K t]{q} f : sProp 𝕄)).trans ?_
  iintro ⟨%fs, H⟩
  iapply (h2 fs); iexact H

/-- Holding a buffer, whatever it holds, is holding its pieces, whatever they hold. -/
theorem any_pieces (hd : ∀ t t', t ≠ t' → Disjoint (K t) (K t')) (hc : ∀ i, ∃ t, i ∈ K t) (t0 : T) (f0 : Buf (Elt F) ℓ) :
    (iprop(∃ f, ℓ ↦{fullShare} f) : sProp 𝕄) = bigSep Finset.univ fun t => iprop(∃ f, ℓ ↦[K t]{fullShare} f) := by
  have h0 : ∀ (f : Buf (Elt F) ℓ) (t : T), (ℓ ↦[K t]{fullShare} f : sProp 𝕄) ⊢ iprop(∃ f, ℓ ↦[K t]{fullShare} f) := by
    intro f t; iintro H; iexists f; iexact H
  have h2 : ∀ f : Buf (Elt F) ℓ, (ℓ ↦{fullShare} f : sProp 𝕄) ⊢ bigSep Finset.univ fun t => iprop(∃ f, ℓ ↦[K t]{fullShare} f) := fun f =>
    (Entails.of_eq (whole_split hd hc fullShare f)).trans (bigSep_mono fun t _ => h0 f t)
  have h1 : (iprop(∃ f, ℓ ↦{fullShare} f) : sProp 𝕄) ⊢ bigSep Finset.univ fun t => iprop(∃ f, ℓ ↦[K t]{fullShare} f) := by
    iintro ⟨%f, H⟩
    iapply (h2 f); iexact H
  exact BI.equiv_iff.mp ⟨h1, whole_join hd hc fullShare t0 f0⟩

end Pieces

variable {sp : Space} {s : Shape} {e : EltTy}

/-- Owning a view's elements, whatever they hold, is holding some contents on its set. -/
theorem owAny_eq (c : Dev nD) (v : Memref sig .tc sp s e) :
    (owAny c v : sProp 𝕄) = iprop(∃ f : Buf (Elt F) (v.view.loc (c : Thread nD τ)), v.view.loc (c : Thread nD τ) ↦[v.view.set]{fullShare} f) := by
  have h1 : (owAny c v : sProp 𝕄) ⊢ iprop(∃ f : Buf (Elt F) (v.view.loc (c : Thread nD τ)), v.view.loc (c : Thread nD τ) ↦[v.view.set]{fullShare} f) := by
    unfold owAny ow
    iintro ⟨%X, %f, %hf, H⟩
    iexists f; iexact H
  have h2 : iprop(∃ f : Buf (Elt F) (v.view.loc (c : Thread nD τ)), v.view.loc (c : Thread nD τ) ↦[v.view.set]{fullShare} f) ⊢ (owAny c v : sProp 𝕄) := by
    unfold owAny ow
    iintro ⟨%f, H⟩
    iexists (v.view.read (Elt F) f); iexists f; isplitr
    · ipureintro; rfl
    · iexact H
  exact BI.equiv_iff.mp ⟨h1, h2⟩

/-- A family over the numbers below `N` as a run. -/
theorem run_of_fin (N : ℕ) (P : ℕ → sProp 𝕄) : (bigSep Finset.univ fun k : Fin N => P k.val) = run P N 0 := by
  have h : ∀ f n, runFrom P f n = bigSep (Finset.Ico n (n + f)) P := by
    intro f
    induction f with
    | zero => intro n; rw [Nat.add_zero, Finset.Ico_self, bigSep_empty]; rfl
    | succ f ih =>
      intro n
      rw [bigSep_Ico_succ_bot (by omega), show n + (f + 1) = n + 1 + f by omega, ← ih]; rfl
  unfold run
  rw [h, Nat.sub_zero, Nat.zero_add, ← Finset.range_eq_Ico, ← Nat.Iio_eq_range, ← Fin.map_valEmbedding_univ, bigSep_map]
  rfl

theorem runFrom_sep (P Q : ℕ → sProp 𝕄) (f n : ℕ) : runFrom (fun k => iprop(P k ∗ Q k)) f n = iprop(runFrom P f n ∗ runFrom Q f n) := by
  induction f generalizing n with
  | zero => exact (BI.equiv_iff.mp emp_sep).symm
  | succ f ih =>
    have h1 : iprop((P n ∗ Q n) ∗ (runFrom P f (n + 1) ∗ runFrom Q f (n + 1))) ⊢ (iprop((P n ∗ runFrom P f (n + 1)) ∗ (Q n ∗ runFrom Q f (n + 1))) : sProp 𝕄) := by
      iintro ⟨⟨A, B⟩, C, D⟩
      isplitl [A C]
      · isplitl [A] <;> iassumption
      · isplitl [B] <;> iassumption
    have h2 : (iprop((P n ∗ runFrom P f (n + 1)) ∗ (Q n ∗ runFrom Q f (n + 1))) : sProp 𝕄) ⊢ iprop((P n ∗ Q n) ∗ (runFrom P f (n + 1) ∗ runFrom Q f (n + 1))) := by
      iintro ⟨⟨A, C⟩, B, D⟩
      isplitl [A B]
      · isplitl [A] <;> iassumption
      · isplitl [C] <;> iassumption
    show iprop((P n ∗ Q n) ∗ runFrom (fun k => iprop(P k ∗ Q k)) f (n + 1)) = _
    rw [ih]
    exact BI.equiv_iff.mp ⟨h1, h2⟩

/-- A run of pairs is the pair of the runs. -/
theorem run_sep (P Q : ℕ → sProp 𝕄) (N n : ℕ) : run (fun k => iprop(P k ∗ Q k)) N n = iprop(run P N n ∗ run Q N n) := runFrom_sep P Q _ _

/-! ## The scratch buffers -/

theorem mem_wSlot (di s : Fin 2) (i : S2x2x1024x512.Idx) :
    i ∈ (wSlot di s).view.set ↔ (i 0).val = di.val ∧ (i 1).val = s.val := by
  have h2 : (i 2).val < 1024 := (i 2).isLt
  have h3 : (i 3).val < 512 := (i 3).isLt
  rw [Memref.set_view_squeeze]
  refine (mem_set_slice_whole_iff cc0_scratch2 _ i mem_unit).trans ⟨fun h => ?_, fun h a => ?_⟩
  · have h0 : di.val ≤ (i 0).val ∧ (i 0).val < di.val + 1 := h 0
    have h1 : s.val ≤ (i 1).val ∧ (i 1).val < s.val + 1 := h 1
    omega
  · match a with
    | ⟨0, _⟩ => show di.val ≤ (i 0).val ∧ (i 0).val < di.val + 1; omega
    | ⟨1, _⟩ => show s.val ≤ (i 1).val ∧ (i 1).val < s.val + 1; omega
    | ⟨2, _⟩ => show 0 ≤ (i 2).val ∧ (i 2).val < 0 + 1024; omega
    | ⟨3, _⟩ => show 0 ≤ (i 3).val ∧ (i 3).val < 0 + 512; omega

/-- Pieces named by a key: disjoint and covering. -/
theorem keyed {I T : Type} [DecidableEq I] (K : T → Finset I) (key : I → T) (h : ∀ t i, i ∈ K t ↔ key i = t) :
    (∀ t t', t ≠ t' → Disjoint (K t) (K t')) ∧ (∀ i, ∃ t, i ∈ K t) :=
  ⟨fun t t' n => Finset.disjoint_left.2 fun i hi hi' => n (((h t i).1 hi).symm.trans ((h t' i).1 hi')), fun i => ⟨key i, (h _ i).2 rfl⟩⟩

theorem keyed_send : (∀ t t' : Fin 2, t ≠ t' → Disjoint (sendWhole t).view.set (sendWhole t').view.set)
    ∧ (∀ i : S2x4096x512.Idx, ∃ t : Fin 2, i ∈ (sendWhole t).view.set) :=
  keyed (fun t : Fin 2 => (sendWhole t).view.set) (fun i : S2x4096x512.Idx => i 0) fun t i => (mem_sendWhole t i).trans (Fin.ext_iff (a := i 0) (b := t)).symm

theorem keyed_recv : (∀ t t' : Fin 2 × Fin 2, t ≠ t' → Disjoint (recvWhole t.1 t.2).view.set (recvWhole t'.1 t'.2).view.set)
    ∧ (∀ i : S2x2x4096x512.Idx, ∃ t : Fin 2 × Fin 2, i ∈ (recvWhole t.1 t.2).view.set) :=
  keyed (fun t : Fin 2 × Fin 2 => (recvWhole t.1 t.2).view.set) (fun i : S2x2x4096x512.Idx => (i 0, i 1)) fun t i =>
    (mem_recvWhole t.1 t.2 i).trans ((Prod.ext_iff (x := (i 0, i 1)) (y := t)).trans (and_congr Fin.ext_iff Fin.ext_iff)).symm

theorem keyed_w : (∀ t t' : Fin 2 × Fin 2, t ≠ t' → Disjoint (wSlot t.1 t.2).view.set (wSlot t'.1 t'.2).view.set)
    ∧ (∀ i : S2x2x1024x512.Idx, ∃ t : Fin 2 × Fin 2, i ∈ (wSlot t.1 t.2).view.set) :=
  keyed (fun t : Fin 2 × Fin 2 => (wSlot t.1 t.2).view.set) (fun i : S2x2x1024x512.Idx => (i 0, i 1)) fun t i =>
    (mem_wSlot t.1 t.2 i).trans ((Prod.ext_iff (x := (i 0, i 1)) (y := t)).trans (and_congr Fin.ext_iff Fin.ext_iff)).symm

/-- The send buffer is its two directions. -/
theorem send_any (m : (ℓ : Loc nD τ sig) → Buf (Elt F) ℓ) (c : Dev nD) :
    (iprop(∃ f : Buf (Elt F) ((c : Thread nD τ).loc cc0_scratch0), (c : Thread nD τ).loc cc0_scratch0 ↦{fullShare} f) : sProp 𝕄)
      = iprop(owAny c (sendWhole 0) ∗ owAny c (sendWhole 1)) := by
  refine (any_pieces (ℓ := (c : Thread nD τ).loc cc0_scratch0) keyed_send.1 keyed_send.2 0 (m _)).trans ?_
  rw [bigSep_fin_two, owAny_eq, owAny_eq]; rfl

theorem bigSep_two_two {T : ℕ} (Φ : Fin 2 × Fin T → sProp 𝕄) :
    bigSep Finset.univ Φ = iprop((bigSep Finset.univ fun t => Φ (0, t)) ∗ (bigSep Finset.univ fun t => Φ (1, t))) := by
  rw [bigSep_univ_prod, bigSep_fin_two]; rfl

/-- The landing buffer is its four slots. -/
theorem recv_any (m : (ℓ : Loc nD τ sig) → Buf (Elt F) ℓ) (c : Dev nD) :
    (iprop(∃ f : Buf (Elt F) ((c : Thread nD τ).loc cc0_scratch1), (c : Thread nD τ).loc cc0_scratch1 ↦{fullShare} f) : sProp 𝕄)
      = iprop((owAny c (recvWhole 0 0) ∗ owAny c (recvWhole 0 1)) ∗ (owAny c (recvWhole 1 0) ∗ owAny c (recvWhole 1 1))) := by
  refine (any_pieces (ℓ := (c : Thread nD τ).loc cc0_scratch1) keyed_recv.1 keyed_recv.2 (0, 0) (m _)).trans ?_
  rw [bigSep_two_two, bigSep_fin_two, bigSep_fin_two]; simp only [owAny_eq]; rfl

/-- The weight buffer is its four slots. -/
theorem w_any (m : (ℓ : Loc nD τ sig) → Buf (Elt F) ℓ) (c : Dev nD) :
    (iprop(∃ f : Buf (Elt F) ((c : Thread nD τ).loc cc0_scratch2), (c : Thread nD τ).loc cc0_scratch2 ↦{fullShare} f) : sProp 𝕄)
      = iprop((owAny c (wSlot 0 0) ∗ owAny c (wSlot 0 1)) ∗ (owAny c (wSlot 1 0) ∗ owAny c (wSlot 1 1))) := by
  refine (any_pieces (ℓ := (c : Thread nD τ).loc cc0_scratch2) keyed_w.1 keyed_w.2 (0, 0) (m _)).trans ?_
  rw [bigSep_two_two, bigSep_fin_two, bigSep_fin_two]; simp only [owAny_eq]; rfl

/-- A landing slot is its two halves. -/
theorem slot_any (c : Dev nD) (di s : Fin 2) :
    (owAny c (recvWhole di s) : sProp 𝕄) = iprop(owAny c (recvHalf di s 0) ∗ owAny c (recvHalf di s 1)) := by
  have h1 : (owAny c (recvWhole di s) : sProp 𝕄) ⊢ iprop(owAny c (recvHalf di s 0) ∗ owAny c (recvHalf di s 1)) := by
    unfold owAny
    iintro ⟨%X, H⟩
    ihave H := (Entails.of_eq (recv_halves c di s fullShare X)) $$ H
    icases H with ⟨A, B⟩
    isplitl [A]
    · iexists (half 0 X); iexact A
    · iexists (half 1 X); iexact B
  have h2 : iprop(owAny c (recvHalf di s 0) ∗ owAny c (recvHalf di s 1)) ⊢ (owAny c (recvWhole di s) : sProp 𝕄) := by
    unfold owAny
    iintro ⟨⟨%A, HA⟩, %B, HB⟩
    obtain ⟨X, hA, hB⟩ := exists_halves A B
    iexists X
    iapply (Entails.of_eq (recv_halves c di s fullShare X).symm)
    isplitl [HA]
    · iapply (Entails.of_eq (show ow c (recvHalf di s 0) fullShare A = ow c (recvHalf di s 0) fullShare (half 0 X) by rw [hA])); iexact HA
    · iapply (Entails.of_eq (show ow c (recvHalf di s 1) fullShare B = ow c (recvHalf di s 1) fullShare (half 1 X) by rw [hB])); iexact HB
  exact BI.equiv_iff.mp ⟨h1, h2⟩

/-! ## Blocks of columns -/

/-- The block of 512 columns that fetch `t` brings. -/
def wBlk (c : Dev nD) (di : Fin 2) (t : ℕ) : ℕ := 8 * di.val + 4 * (t / 4) + ((dst di)^[3 - t % 4] c).val
/-- The block of 512 columns that store `k` writes. -/
def oBlk (c : Dev nD) (di : Fin 2) (k : ℕ) : ℕ := 8 * di.val + 4 * (k / 4) + ((src di)^[k % 4] c).val

theorem off_w : ∀ (c : Dev nD) (di : Fin 2) (t : Fin 8),
    k0_off1 c (k0_off1_at (fIx di t.val)).1 (k0_off1_at (fIx di t.val)).2 = ![0, 512 * wBlk c di t.val] := by decide +kernel

theorem off_o0 : ∀ (c : Dev nD) (di : Fin 2) (k : Fin 8), k.val % 4 = 0 →
    k0_off2 c (BitVec.ofNat 32 (2048 * (oIx di k.val).val)) = ![0, 512 * oBlk c di k.val] := by decide +kernel
theorem off_o1 : ∀ (c : Dev nD) (di : Fin 2) (k : Fin 8), ¬ k.val % 4 = 0 →
    k0_off3 c (k0_off3_at (gIx di k.val)).1 (k0_off3_at (gIx di k.val)).2 = ![0, 512 * oBlk c di k.val] := by decide +kernel

theorem wBlk_inj : ∀ (c : Dev nD) (t t' : Fin 2 × Fin 8), t ≠ t' → wBlk c t.1 t.2.val ≠ wBlk c t'.1 t'.2.val := by decide +kernel
theorem wBlk_surj : ∀ (c : Dev nD) (b : Fin 16), ∃ t : Fin 2 × Fin 8, b.val = wBlk c t.1 t.2.val := by decide +kernel
theorem oBlk_inj : ∀ (c : Dev nD) (t t' : Fin 2 × Fin 8), t ≠ t' → oBlk c t.1 t.2.val ≠ oBlk c t'.1 t'.2.val := by decide +kernel
theorem oBlk_surj : ∀ (c : Dev nD) (b : Fin 16), ∃ t : Fin 2 × Fin 8, b.val = oBlk c t.1 t.2.val := by decide +kernel

/-- The elements of a block of columns: those whose column is in it. -/
theorem mem_wCol (c : Dev nD) (di : Fin 2) (t : Fin 8) (i : S1024x8192.Idx) : i ∈ (wCol c di t.val).view.set ↔ (i 1).val / 512 = wBlk c di t.val := by
  have h0 : (i 0).val < 1024 := (i 0).isLt
  refine (mem_set_slice_whole_iff main_arg1 _ i mem_unit).trans ?_
  rw [off_w]
  refine ⟨fun h => ?_, fun h a => ?_⟩
  · have h1 : 512 * wBlk c di t.val ≤ (i 1).val ∧ (i 1).val < 512 * wBlk c di t.val + 512 := h 1
    omega
  · match a with
    | ⟨0, _⟩ => show 0 ≤ (i 0).val ∧ (i 0).val < 0 + 1024; omega
    | ⟨1, _⟩ => show 512 * wBlk c di t.val ≤ (i 1).val ∧ (i 1).val < 512 * wBlk c di t.val + 512; omega

theorem oBlk_lt : ∀ (c : Dev nD) (di : Fin 2) (k : Fin 8), oBlk c di k.val < 16 := by decide +kernel

theorem inb_blk {b : ℕ} (h : b < 16) : ∀ a, (![0, 512 * b] : Fin 2 → ℕ) a + S4096x512.size a ≤ S4096x8192.size a := by
  intro a
  match a with
  | ⟨0, _⟩ => show 0 + 4096 ≤ 4096; omega
  | ⟨1, _⟩ => show 512 * b + 512 ≤ 8192; omega

/-- Block `b` of the result's columns. -/
abbrev oB (b : ℕ) (h : b < 16) : Memref sig .tc .hbm S4096x512 .bf16 :=
  oM.slice (Rect.unit (s := S4096x8192) ![0, 512 * b] S4096x512.size (inb_blk h)) (fun _ => rfl)

theorem slice_congr {off off' : Fin 2 → ℕ} {inb : ∀ a, off a + S4096x512.size a ≤ S4096x8192.size a}
    {inb' : ∀ a, off' a + S4096x512.size a ≤ S4096x8192.size a} (h : off = off') :
    (oM.slice (Rect.unit (s := S4096x8192) off S4096x512.size inb) (fun _ => rfl) : Memref sig .tc .hbm S4096x512 .bf16)
      = oM.slice (Rect.unit (s := S4096x8192) off' S4096x512.size inb') (fun _ => rfl) := by
  subst h; rfl

/-- The columns store `k` writes, by their block number. -/
theorem oCol_eq (c : Dev nD) (di : Fin 2) (k : Fin 8) : oCol c di k.val = oB (oBlk c di k.val) (oBlk_lt c di k) := by
  unfold oCol
  split
  next h => exact slice_congr (off_o0 c di k h)
  next h => exact slice_congr (off_o1 c di k h)

theorem mem_oB (b : ℕ) (hb : b < 16) (i : S4096x8192.Idx) : i ∈ (oB b hb).view.set ↔ (i 1).val / 512 = b := by
  have h0 : (i 0).val < 4096 := (i 0).isLt
  refine (mem_set_slice_whole_iff main_v1 _ i mem_unit).trans ⟨fun h => ?_, fun h a => ?_⟩
  · have h1 : 512 * b ≤ (i 1).val ∧ (i 1).val < 512 * b + 512 := h 1
    omega
  · match a with
    | ⟨0, _⟩ => show 0 ≤ (i 0).val ∧ (i 0).val < 0 + 4096; omega
    | ⟨1, _⟩ => show 512 * b ≤ (i 1).val ∧ (i 1).val < 512 * b + 512; omega

/-- Element `j` of block `b` is in column `512 b + j 1`. -/
theorem read_oB (b : ℕ) (hb : b < 16) (g : (main_v1 : Ref sig .tc).ty.Contents (Elt F)) (j : S4096x512.Idx) (i : S4096x8192.Idx)
    (h0 : (i 0).val = (j 0).val) (h1 : (i 1).val = 512 * b + (j 1).val) : (oB b hb).view.read (Elt F) g j = g i := by
  show g _ = g i
  refine congrArg g (funext fun a => Fin.ext ?_)
  match a with
  | ⟨0, _⟩ => show 0 + 1 * (j 0).val = (i 0).val; omega
  | ⟨1, _⟩ => show 512 * b + 1 * (j 1).val = (i 1).val; omega

/-- Blocks named by distinct numbers that reach all sixteen: disjoint and covering. -/
theorem keyed_blk {I T : Type} [DecidableEq I] (K : T → Finset I) (key : I → ℕ) (blk : T → ℕ) (h : ∀ t i, i ∈ K t ↔ key i = blk t)
    (hk : ∀ i, key i < 16) (hi : ∀ t t', t ≠ t' → blk t ≠ blk t') (hs : ∀ b : Fin 16, ∃ t, b.val = blk t) :
    (∀ t t', t ≠ t' → Disjoint (K t) (K t')) ∧ (∀ i, ∃ t, i ∈ K t) :=
  ⟨fun t t' n => Finset.disjoint_left.2 fun i a a' => hi t t' n (((h t i).1 a).symm.trans ((h t' i).1 a')),
    fun i => (hs ⟨key i, hk i⟩).imp fun t e => (h t i).2 e⟩

theorem keyed_wCol (c : Dev nD) : (∀ t t' : Fin 2 × Fin 8, t ≠ t' → Disjoint (wCol c t.1 t.2.val).view.set (wCol c t'.1 t'.2.val).view.set)
    ∧ (∀ i : S1024x8192.Idx, ∃ t : Fin 2 × Fin 8, i ∈ (wCol c t.1 t.2.val).view.set) :=
  keyed_blk (fun t : Fin 2 × Fin 8 => (wCol c t.1 t.2.val).view.set) (fun i : S1024x8192.Idx => (i 1).val / 512) (fun t => wBlk c t.1 t.2.val)
    (fun t i => mem_wCol c t.1 t.2 i) (fun i => by have h : (i 1).val < 8192 := (i 1).isLt; omega) (wBlk_inj c) (wBlk_surj c)

theorem keyed_oB (c : Dev nD) :
    (∀ t t' : Fin 2 × Fin 8, t ≠ t' → Disjoint (oB (oBlk c t.1 t.2.val) (oBlk_lt c t.1 t.2)).view.set (oB (oBlk c t'.1 t'.2.val) (oBlk_lt c t'.1 t'.2)).view.set)
    ∧ (∀ i : S4096x8192.Idx, ∃ t : Fin 2 × Fin 8, i ∈ (oB (oBlk c t.1 t.2.val) (oBlk_lt c t.1 t.2)).view.set) :=
  keyed_blk (fun t : Fin 2 × Fin 8 => (oB (oBlk c t.1 t.2.val) (oBlk_lt c t.1 t.2)).view.set) (fun i : S4096x8192.Idx => (i 1).val / 512)
    (fun t => oBlk c t.1 t.2.val) (fun t i => mem_oB _ _ i) (fun i => by have h : (i 1).val < 8192 := (i 1).isLt; omega) (oBlk_inj c) (oBlk_surj c)

/-! ## The weights and the result -/

variable (m : (ℓ : Loc nD τ sig) → Buf (Elt F) ℓ)

/-- The weights at one share are the sixteen fetches' columns. -/
theorem w_split (c : Dev nD) (q : PosShare TreeShare) :
    ((c : Thread nD τ).loc main_arg1 ↦{q} m ((c : Thread nD τ).loc main_arg1) : sProp 𝕄)
      = iprop(run (fun t => ow c (wCol c 0 t) q (wcol m c 0 t)) 8 0 ∗ run (fun t => ow c (wCol c 1 t) q (wcol m c 1 t)) 8 0) := by
  refine (whole_split (ℓ := (c : Thread nD τ).loc main_arg1) (keyed_wCol c).1 (keyed_wCol c).2 q _).trans ?_
  rw [bigSep_two_two, ← run_of_fin, ← run_of_fin]
  exact congrArg₂ BI.sep (bigSep_congr fun t _ => (ow_eq c (wCol c 0 t.val) q _).symm) (bigSep_congr fun t _ => (ow_eq c (wCol c 1 t.val) q _).symm)

/-- The result, whatever it holds, is the sixteen stores' columns. -/
theorem o_any (m : (ℓ : Loc nD τ sig) → Buf (Elt F) ℓ) (c : Dev nD) :
    (iprop(∃ f : Buf (Elt F) ((c : Thread nD τ).loc main_v1), (c : Thread nD τ).loc main_v1 ↦{fullShare} f) : sProp 𝕄)
      = iprop(run (fun k => owAny c (oCol c 0 k)) 8 0 ∗ run (fun k => owAny c (oCol c 1 k)) 8 0) := by
  refine (any_pieces (ℓ := (c : Thread nD τ).loc main_v1) (keyed_oB c).1 (keyed_oB c).2 (0, 0) (m _)).trans ?_
  rw [bigSep_two_two, ← run_of_fin, ← run_of_fin]
  have e : ∀ (di : Fin 2) (k : Fin 8), (iprop(∃ f : Buf (Elt F) ((c : Thread nD τ).loc main_v1), (c : Thread nD τ).loc main_v1 ↦[(oB (oBlk c di k.val) (oBlk_lt c di k)).view.set]{fullShare} f) : sProp 𝕄)
      = owAny c (oCol c di k.val) := by
    intro di k
    rw [oCol_eq]
    exact (owAny_eq c (oB (oBlk c di k.val) (oBlk_lt c di k))).symm
  exact congrArg₂ BI.sep (bigSep_congr fun k _ => e 0 k) (bigSep_congr fun k _ => e 1 k)

/-- What the result holds in the end, on every device: block `8 di + 4 p + j` is what device `j` made in pass `p` of direction
    `di`. -/
def OUT : (main_v1 : Ref sig .tc).ty.Contents (Elt F) := fun i =>
  val m ⟨(i 1).val / 4096 % 2, Nat.mod_lt _ (by decide)⟩ (6 * ((i 1).val / 2048 % 2) + 3) ⟨(i 1).val / 512 % 4, Nat.mod_lt _ (by decide)⟩
    (ValueIdx.ix2 (i 0) ⟨(i 1).val % 512, Nat.mod_lt _ (by decide)⟩)

theorem val_pass (di : Fin 2) (n : ℕ) (c : Dev nD) (h : 4 ≤ (n + 1) % 6) : val m di (n + 1) c = val m di n (src di c) := by
  show (if (n + 1) % 6 = 0 then _ else if (n + 1) % 6 < 4 then _ else _) = _
  rw [if_neg (by omega), if_neg (by omega)]

/-- The block a store writes, by who made it. -/
theorem outV_eq (di : Fin 2) (k : ℕ) (c : Dev nD) : outV m di k c = val m di (6 * (k / 4) + 3) ((src di)^[k % 4] c) := by
  have h4 : k % 4 < 4 := Nat.mod_lt _ (by decide)
  have h1 := val_pass m di (6 * (k / 4) + 3) (src di c) (by omega)
  have h2 := val_pass m di (6 * (k / 4) + 4) (src di c) (by omega)
  unfold outV
  rcases (by omega : k % 4 = 0 ∨ k % 4 = 1 ∨ k % 4 = 2 ∨ k % 4 = 3) with h | h | h | h <;> rw [h]
  · rfl
  · rfl
  · exact h1
  · exact h2.trans (val_pass m di (6 * (k / 4) + 3) (src di (src di c)) (by omega))

/-- The final contents read at a store's columns are what the store writes. -/
theorem read_OUT (c : Dev nD) (di : Fin 2) (k : Fin 8) : (oB (oBlk c di k.val) (oBlk_lt c di k)).view.read (Elt F) (OUT m) = outV m di k.val c := by
  rw [outV_eq]
  funext j
  have hj0 : (j 0).val < 4096 := (j 0).isLt
  have hj1 : (j 1).val < 512 := (j 1).isLt
  have hb := oBlk_lt c di k
  have hk : k.val < 8 := k.isLt
  have hd : di.val < 2 := di.isLt
  have hs : ((src di)^[k.val % 4] c).val < 4 := ((src di)^[k.val % 4] c).isLt
  refine (read_oB _ hb (OUT m) j (ValueIdx.ix2 ⟨(j 0).val, hj0⟩ ⟨512 * oBlk c di k.val + (j 1).val, by omega⟩) rfl rfl).trans ?_
  have e1 : (⟨(512 * oBlk c di k.val + (j 1).val) / 4096 % 2, Nat.mod_lt _ (by decide)⟩ : Fin 2) = di := Fin.ext (by unfold oBlk; show _ / 4096 % 2 = _; omega)
  have e2 : (512 * oBlk c di k.val + (j 1).val) / 2048 % 2 = k.val / 4 := by unfold oBlk; omega
  have e3 : (⟨(512 * oBlk c di k.val + (j 1).val) / 512 % 4, Nat.mod_lt _ (by decide)⟩ : Dev nD) = (src di)^[k.val % 4] c :=
    Fin.ext (by unfold oBlk; show _ / 512 % 4 = _; omega)
  have e4 : (512 * oBlk c di k.val + (j 1).val) % 512 = (j 1).val := by omega
  show val m ⟨(512 * oBlk c di k.val + (j 1).val) / 4096 % 2, _⟩ (6 * ((512 * oBlk c di k.val + (j 1).val) / 2048 % 2) + 3)
    ⟨(512 * oBlk c di k.val + (j 1).val) / 512 % 4, _⟩ (ValueIdx.ix2 ⟨(j 0).val, hj0⟩ ⟨(512 * oBlk c di k.val + (j 1).val) % 512, _⟩) = _
  rw [e1, e2, e3]
  refine congrArg (val m di (6 * (k.val / 4) + 3) ((src di)^[k.val % 4] c)) (funext fun a => Fin.ext ?_)
  match a with
  | ⟨0, _⟩ => rfl
  | ⟨1, _⟩ => exact e4

/-- All the stores' columns, each holding what its store wrote, are the result holding its final contents. -/
theorem o_join (c : Dev nD) :
    iprop(run (Out m c 0) 8 0 ∗ run (Out m c 1) 8 0) = ((c : Thread nD τ).loc main_v1 ↦{fullShare} OUT m : sProp 𝕄) := by
  refine Eq.trans ?_ (whole_split (ℓ := (c : Thread nD τ).loc main_v1) (keyed_oB c).1 (keyed_oB c).2 fullShare (OUT m)).symm
  rw [bigSep_two_two, ← run_of_fin, ← run_of_fin]
  have e : ∀ (di : Fin 2) (k : Fin 8), (Out m c di k.val : sProp 𝕄)
      = ((c : Thread nD τ).loc main_v1 ↦[(oB (oBlk c di k.val) (oBlk_lt c di k)).view.set]{fullShare} OUT m) := by
    intro di k
    unfold Out
    rw [oCol_eq, ← read_OUT]
    exact ow_eq c (oB (oBlk c di k.val) (oBlk_lt c di k)) fullShare (OUT m)
  exact congrArg₂ BI.sep (bigSep_congr fun k _ => e 0 k) (bigSep_congr fun k _ => e 1 k)

theorem done_eight (c : Dev nD) (di : Fin 2) : (Done m c di 8 : sProp 𝕄) ⊢ run (Out m c di) 8 0 := by
  show iprop((((((((emp ∗ Out m c di 0) ∗ Out m c di 1) ∗ Out m c di 2) ∗ Out m c di 3) ∗ Out m c di 4) ∗ Out m c di 5) ∗ Out m c di 6) ∗ Out m c di 7)
    ⊢ iprop(Out m c di 0 ∗ Out m c di 1 ∗ Out m c di 2 ∗ Out m c di 3 ∗ Out m c di 4 ∗ Out m c di 5 ∗ Out m c di 6 ∗ Out m c di 7 ∗ emp)
  iintro ⟨⟨⟨⟨⟨⟨⟨⟨H, H0⟩, H1⟩, H2⟩, H3⟩, H4⟩, H5⟩, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H

end Cert.RingProof

end
-- ==== Proof.Ghost.lean ====
/-
# What the launch hands out and takes back

The tokens of all payments, dealt to the devices that pay; the credits for all landings, dealt to the devices that wait; the
positions of all cells, from the first round to the last. With a device's memory they make what the body starts from, and
from what the body ends with the cells are closed and the memory is put together.
-/
module

public import proofs.«01_k».proof.Proof.Mem
public import Idealize.ShloMosaic.Lib.Pipeline.BigSepL

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig ℕ (Elt F) ℕ UU ℕ

variable (m : (ℓ : Loc nD τ sig) → Buf (Elt F) ℓ)

/-! ## The cells, by direction -/

/-- The cells of a direction by what they are for: send half, receive slot and half, store, weights, credit. -/
abbrev KeyD : Type := Fin 2 ⊕ (Fin 2 × Fin 2) ⊕ Fin 2 ⊕ Fin 2 ⊕ Fin 2
def semD (di : Fin 2) : KeyD → SemLoc sig
  | .inl q => .dma (sendS di q)
  | .inr (.inl x) => .dma (recvS di x.1 x.2)
  | .inr (.inr (.inl s)) => .dma (storeS di s)
  | .inr (.inr (.inr (.inl s))) => .dma (wS di s)
  | .inr (.inr (.inr (.inr s))) => .reg (credS di s)
def semK : (Fin 2 × KeyD) ⊕ Fin 2 → SemLoc sig
  | .inl x => semD x.1 x.2
  | .inr b => .reg (if b = 0 then barS else endS)
theorem semK_in (k : (Fin 2 × KeyD) ⊕ Fin 2) : InRing (semK k) := by revert k; decide
theorem semK_bij : Function.Bijective fun k => idxOf (semK k) := by decide

/-- `Φ` at each cell of a direction. -/
def dirCells (c : Dev nD) (di : Fin 2) (Φ : GSem nD τ sig → sProp 𝕄) : sProp 𝕄 :=
  iprop((Φ (sendC c di 0) ∗ Φ (sendC c di 1)) ∗ ((Φ (recvC c di 0 0) ∗ Φ (recvC c di 0 1)) ∗ (Φ (recvC c di 1 0) ∗ Φ (recvC c di 1 1)))
    ∗ (Φ (storeC c di 0) ∗ Φ (storeC c di 1)) ∗ (Φ (wC c di 0) ∗ Φ (wC c di 1)) ∗ (Φ (credC c di 0) ∗ Φ (credC c di 1)))

/-- The ring's cells of a device are those of its two directions and the two barrier cells. -/
theorem cells_eq (c : Dev nD) (Φ : GSem nD τ sig → sProp 𝕄) :
    (bigSep Finset.univ fun k : Fin 26 => Φ (kcell (c, k)))
      = iprop((dirCells c 0 Φ ∗ dirCells c 1 Φ) ∗ (Φ (barC c) ∗ Φ (endC c))) := by
  rw [bigSep_univ_equiv (Equiv.ofBijective _ semK_bij)]
  refine (bigSep_congr fun k _ => (congrArg Φ (Prod.ext rfl (semK_in k)) : Φ (kcell (c, idxOf (semK k))) = Φ ((c : Thread nD τ), semK k))).trans ?_
  simp only [bigSep_univ_sum, bigSep_univ_prod, bigSep_fin_two]
  rfl

/-! ## Tokens -/

/-- The payments of a device in one direction: sends and their landings by number and half, credits, fetches, stores, and the
    two barrier signals. -/
abbrev KeyT : Type := (Fin 12 × Fin 2) ⊕ (Fin 12 × Fin 2) ⊕ Fin 10 ⊕ Fin 8 ⊕ Fin 8 ⊕ Fin 2
/-- The duty each payment does. -/
def tok (c : Dev nD) (di : Fin 2) : KeyT → GSem nD τ sig × ℕ × Fin 2
  | .inl x => (sendC c di x.2, x.1.val, 0)
  | .inr (.inl x) => (recvC (dst di c) di (sl x.1.val) x.2, x.1.val / 2, 0)
  | .inr (.inr (.inl k)) => (credC (src di c) di (sl k.val), k.val / 2, 0)
  | .inr (.inr (.inr (.inl t))) => (wC c di (sl t.val), t.val / 2, 0)
  | .inr (.inr (.inr (.inr (.inl k)))) => (storeC c di (sl k.val), k.val / 2, 0)
  | .inr (.inr (.inr (.inr (.inr b)))) => (((src di c : Thread nD τ), .reg (if b = 0 then barS else endS)), 0, di)
def tokOf (x : Dev nD × Fin 2 × KeyT) : GSem nD τ sig × ℕ × Fin 2 := tok x.1 x.2.1 x.2.2

/-- A payment as device, direction, sort, number and half. -/
def code (x : Dev nD × Fin 2 × KeyT) : Dev nD × Fin 2 × ℕ × ℕ × ℕ :=
  (x.1, x.2.1, match x.2.2 with
    | .inl y => (0, y.1.val, y.2.val)
    | .inr (.inl y) => (1, y.1.val, y.2.val)
    | .inr (.inr (.inl k)) => (2, k.val, 0)
    | .inr (.inr (.inr (.inl t))) => (3, t.val, 0)
    | .inr (.inr (.inr (.inr (.inl k)))) => (4, k.val, 0)
    | .inr (.inr (.inr (.inr (.inr b)))) => (5, b.val, 0))
/-- Who pays a duty, and which. -/
def payer (t : GSem nD τ sig × ℕ × Fin 2) : Dev nD × Fin 2 × ℕ × ℕ × ℕ :=
  match kindOf t.1.2 with
  | .send di q => (t.1.1.1, di, 0, t.2.1, q.val)
  | .recv di s q => (src di t.1.1.1, di, 1, 2 * t.2.1 + s.val, q.val)
  | .crd di s => (dst di t.1.1.1, di, 2, 2 * t.2.1 + s.val, 0)
  | .wt di s => (t.1.1.1, di, 3, 2 * t.2.1 + s.val, 0)
  | .store di s => (t.1.1.1, di, 4, 2 * t.2.1 + s.val, 0)
  | .bar => (dst t.2.2 t.1.1.1, t.2.2, 5, 0, 0)
  | .fin => (dst t.2.2 t.1.1.1, t.2.2, 5, 1, 0)
  | .other => (t.1.1.1, 0, 6, 0, 0)

theorem payer_tok (x : Dev nD × Fin 2 × KeyT) : payer (tokOf x) = code x := by
  obtain ⟨c, di, k⟩ := x
  rcases k with ⟨n, q⟩ | ⟨n, q⟩ | k | t | k | b
  · show payer (sendC c di q, n.val, 0) = _
    unfold payer; simp only [kind_send]; rfl
  · show payer (recvC (dst di c) di (sl n.val) q, n.val / 2, 0) = _
    unfold payer; simp only [kind_recv, src_dst, sl_split]; rfl
  · show payer (credC (src di c) di (sl k.val), k.val / 2, 0) = _
    unfold payer; simp only [kind_cred, dst_src, sl_split]; rfl
  · show payer (wC c di (sl t.val), t.val / 2, 0) = _
    unfold payer; simp only [kind_w, sl_split]; rfl
  · show payer (storeC c di (sl k.val), k.val / 2, 0) = _
    unfold payer; simp only [kind_store, sl_split]; rfl
  · rcases (by omega : b = 0 ∨ b = 1) with rfl | rfl
    · show payer (barC (src di c), 0, di) = _
      unfold payer; simp only [kind_bar, dst_src]; rfl
    · show payer (endC (src di c), 0, di) = _
      unfold payer; simp only [kind_fin, dst_src]; rfl

theorem code_inj : Function.Injective code := by
  rintro ⟨c, di, k⟩ ⟨c', di', k'⟩ h
  have h1 : c = c' := congrArg Prod.fst h
  have h2 : di = di' := congrArg (fun y => y.2.1) h
  have h3 := congrArg (fun y => y.2.2) h
  subst h1 h2
  rcases k with ⟨n, q⟩ | ⟨n, q⟩ | k | t | k | b <;> rcases k' with ⟨n', q'⟩ | ⟨n', q'⟩ | k' | t' | k' | b' <;>
    simp only [code, Prod.mk.injEq] at h3 <;> first | omega | skip
  all_goals simp only [Prod.mk.injEq, Sum.inr.injEq, Sum.inl.injEq, true_and, Fin.ext_iff] <;> omega

theorem tokOf_inj : Function.Injective tokOf := fun x y h => code_inj (by rw [← payer_tok, ← payer_tok, h])

/-- All tokens. -/
def ringToks : Finset (GSem nD τ sig × ℕ × Fin 2) := Finset.univ.map ⟨tokOf, tokOf_inj⟩

/-- A device's tokens in one direction. -/
def Toks (c : Dev nD) (di : Fin 2) : sProp 𝕄 :=
  iprop(run (fun n => iprop(tSend c di n 0 ∗ tSend c di n 1)) 12 0 ∗ Crds c di 0
    ∗ run (fun t => dutyTok ER (wC c di (sl t)) (t / 2) 0) 8 0 ∗ run (fun k => dutyTok ER (storeC c di (sl k)) (k / 2) 0) 8 0
    ∗ (dutyTok ER (barC (src di c)) 0 di ∗ dutyTok ER (endC (src di c)) 0 di))

theorem toks_dir (c : Dev nD) (di : Fin 2) :
    (bigSep Finset.univ fun k : KeyT => (dutyTok ER (tok c di k).1 (tok c di k).2.1 (tok c di k).2.2 : sProp 𝕄)) ⊢ Toks c di := by
  have e : run (fun n => iprop(tSend c di n 0 ∗ tSend c di n 1)) 12 0
      = iprop((bigSep Finset.univ fun x : Fin 12 × Fin 2 => (dutyTok ER (sendC c di x.2) x.1.val 0 : sProp 𝕄))
        ∗ (bigSep Finset.univ fun x : Fin 12 × Fin 2 => (dutyTok ER (recvC (dst di c) di (sl x.1.val) x.2) (x.1.val / 2) 0 : sProp 𝕄))) := by
    have h1 : ∀ n, iprop(tSend c di n 0 ∗ tSend c di n 1)
        = (iprop((dutyTok ER (sendC c di 0) n 0 ∗ dutyTok ER (sendC c di 1) n 0)
          ∗ (dutyTok ER (recvC (dst di c) di (sl n) 0) (n / 2) 0 ∗ dutyTok ER (recvC (dst di c) di (sl n) 1) (n / 2) 0)) : sProp 𝕄) := by
      intro n
      have a : iprop(tSend c di n 0 ∗ tSend c di n 1)
          ⊢ (iprop((dutyTok ER (sendC c di 0) n 0 ∗ dutyTok ER (sendC c di 1) n 0)
            ∗ (dutyTok ER (recvC (dst di c) di (sl n) 0) (n / 2) 0 ∗ dutyTok ER (recvC (dst di c) di (sl n) 1) (n / 2) 0)) : sProp 𝕄) := by
        unfold tSend
        iintro ⟨⟨A, B⟩, C, D⟩
        isplitl [A C]
        · isplitl [A] <;> iassumption
        · isplitl [B] <;> iassumption
      have b : (iprop((dutyTok ER (sendC c di 0) n 0 ∗ dutyTok ER (sendC c di 1) n 0)
            ∗ (dutyTok ER (recvC (dst di c) di (sl n) 0) (n / 2) 0 ∗ dutyTok ER (recvC (dst di c) di (sl n) 1) (n / 2) 0)) : sProp 𝕄)
          ⊢ iprop(tSend c di n 0 ∗ tSend c di n 1) := by
        unfold tSend
        iintro ⟨⟨A, C⟩, B, D⟩
        isplitl [A B]
        · isplitl [A] <;> iassumption
        · isplitl [C] <;> iassumption
      exact BI.equiv_iff.mp ⟨a, b⟩
    simp only [h1]
    rw [run_sep, ← run_of_fin, ← run_of_fin, bigSep_univ_prod, bigSep_univ_prod]
    simp only [bigSep_fin_two]
    rfl
  unfold Toks Crds
  rw [e, ← run_of_fin, ← run_of_fin, ← run_of_fin]
  simp only [bigSep_univ_sum, bigSep_fin_two]
  show iprop((bigSep Finset.univ fun x : Fin 12 × Fin 2 => (dutyTok ER (sendC c di x.2) x.1.val 0 : sProp 𝕄))
      ∗ (bigSep Finset.univ fun x : Fin 12 × Fin 2 => (dutyTok ER (recvC (dst di c) di (sl x.1.val) x.2) (x.1.val / 2) 0 : sProp 𝕄))
      ∗ (bigSep Finset.univ fun k : Fin 10 => tCrd c di k.val)
      ∗ (bigSep Finset.univ fun t : Fin 8 => dutyTok ER (wC c di (sl t.val)) (t.val / 2) 0)
      ∗ (bigSep Finset.univ fun k : Fin 8 => dutyTok ER (storeC c di (sl k.val)) (k.val / 2) 0)
      ∗ (dutyTok ER (barC (src di c)) 0 di ∗ dutyTok ER (endC (src di c)) 0 di)) ⊢ _
  iintro ⟨A, B, C, D, E, G⟩
  isplitl [A B]
  · isplitl [A]
    · iexact A
    · iexact B
  isplitl [C]; · iexact C
  isplitl [D]; · iexact D
  isplitl [E]; · iexact E
  iexact G

theorem toks_all :
    (bigSep ringToks fun x => (dutyTok ER x.1 x.2.1 x.2.2 : sProp 𝕄)) ⊢ bigSep Finset.univ fun c : Dev nD => iprop(Toks c 0 ∗ Toks c 1) := by
  unfold ringToks
  rw [bigSep_map, bigSep_univ_prod]
  refine bigSep_mono fun c _ => ?_
  rw [bigSep_univ_prod, bigSep_fin_two]
  exact BIClass.sep_mono (toks_dir c 0) (toks_dir c 1)

/-! ## Credits -/

def listRun (g : ℕ → List Item) : ℕ → ℕ → List Item
  | 0, _ => []
  | f + 1, n => g n ++ listRun g f (n + 1)

theorem bigSepL_listRun (g : ℕ → List Item) (Φ : Item → sProp 𝕄) (f n : ℕ) :
    bigSepL (listRun g f n) Φ = runFrom (fun k => bigSepL (g k) Φ) f n := by
  induction f generalizing n with
  | zero => rfl
  | succ f ih =>
    show bigSepL (g n ++ listRun g f (n + 1)) Φ = iprop(bigSepL (g n) Φ ∗ runFrom _ f (n + 1))
    rw [bigSepL_append, ih]

/-- The payments a device is paid in one direction. -/
def preG (di : Fin 2) (n : ℕ) : List Item := if n < 2 then [] else [.crd di (n - 2)]
def sndG (di : Fin 2) (n : ℕ) : List Item := [.snd di n 0, .snd di n 1]
def dirL (di : Fin 2) : List Item := listRun (preG di) 12 0 ++ (listRun (sndG di) 12 0 ++ [.bar di, .fin di])

theorem items_perm : items.Perm (dirL 0 ++ dirL 1) := by decide +kernel

/-- What all devices owe at the start, and what each may wait for. -/
def owed0 (c : Dev nD) : CellTallies nD τ sig ℕ := dues c (rest 0)
def due0 (c : Dev nD) : CellTallies nD τ sig ℕ := TalkSites.tallyL ((dirL 0 ++ dirL 1).map (Item.at_ c))

theorem tallyL_perm {l l' : List (TalkSites.Pay nD τ sig)} (h : l.Perm l') : TalkSites.tallyL l = TalkSites.tallyL l' := by
  induction h with
  | nil => rfl
  | cons x _ ih => rw [TalkSites.tallyL, TalkSites.tallyL, ih]
  | swap x y l => simp only [TalkSites.tallyL]; exact add_left_comm _ _ _
  | trans _ _ h1 h2 => exact h1.trans h2

theorem tgt_bij (x : Item) : Function.Bijective fun c => x.tgt c := by
  have hs : ∀ di, Function.Bijective (src di) := fun di =>
    Function.bijective_iff_has_inverse.2 ⟨dst di, fun c => dst_src di c, fun c => src_dst di c⟩
  have hd : ∀ di, Function.Bijective (dst di) := fun di =>
    Function.bijective_iff_has_inverse.2 ⟨src di, fun c => src_dst di c, fun c => dst_src di c⟩
  cases x
  · exact hs _
  · exact hd _
  · exact hs _
  · exact hs _

theorem sum_pay (l : List Item) : (∑ c : Dev nD, TalkSites.tallyL (l.map (Item.pay c))) = ∑ c : Dev nD, TalkSites.tallyL (l.map (Item.at_ c)) := by
  induction l with
  | nil => rfl
  | cons x l ih =>
    simp only [List.map_cons, TalkSites.tallyL, Finset.sum_add_distrib]
    rw [ih]
    refine congrArg (· + _) ?_
    exact (tgt_bij x).sum_comp fun e => TalkSites.Pay.tally (x.at_ e)

theorem sum_owed : (∑ c, owed0 c) = ∑ c, due0 c :=
  (sum_pay (rest 0)).trans (Finset.sum_congr rfl fun c _ => tallyL_perm ((show (rest 0).Perm _ from items_perm).map _))

theorem at_cell (c : Dev nD) (x : Item) : (x.at_ c).1.1 = (c : Thread nD τ) := by cases x <;> rfl

theorem due_own (c : Dev nD) (g : GSem nD τ sig) (h : due0 c g ≠ 0) : g.1 = (c : Thread nD τ) := by
  obtain ⟨i, hi⟩ : ∃ i, due0 c g i ≠ 0 := by
    by_contra hn
    exact h (Finsupp.ext fun i => by by_contra hi; exact hn ⟨i, hi⟩)
  obtain ⟨x, hx, rfl, -⟩ := TalkSites.tallyL_pos (Nat.pos_of_ne_zero hi)
  obtain ⟨y, -, rfl⟩ := List.mem_map.mp hx
  exact at_cell c y

/-- A device's credits in one direction. -/
def Creds (c : Dev nD) (di : Fin 2) : sProp 𝕄 :=
  iprop(run (PreL c di) 12 0 ∗ run (tR c di) 12 0 ∗ (cred (tallyAt (barC c) 1 1) ∗ cred (tallyAt (endC c) 90 1)))

theorem creds_dir (c : Dev nD) (di : Fin 2) :
    bigSepL (dirL di) (fun x => (cred (TalkSites.Pay.tally (x.at_ c)) : sProp 𝕄)) = Creds c di := by
  unfold dirL Creds
  rw [bigSepL_append, bigSepL_append, bigSepL_listRun, bigSepL_listRun]
  refine congrArg₂ BI.sep ?_ (congrArg₂ BI.sep ?_ rfl)
  · refine runFrom_congr 12 0 fun k _ => ?_
    unfold PreL preG
    split
    · rfl
    next h =>
      show (cred (tallyAt (credC c di (sl (k - 2))) (ixC di (k - 2)) 1) : sProp 𝕄) = _
      rw [show sl (k - 2) = sl k from by rw [← sl_add (k - 2), Nat.sub_add_cancel (by omega)]]
  · exact runFrom_congr 12 0 fun k _ => rfl

/-- The credits of the launch, dealt. -/
theorem creds_all (c : Dev nD) : (Pipeline.launchCred owed0 c : sProp 𝕄) = iprop(Creds c 0 ∗ Creds c 1) := by
  rw [Pipeline.launchCred_of_sum owed0 due0 sum_owed due_own c]
  unfold due0
  rw [TalkSites.cred_tallyL, bigSepL_map, bigSepL_append, creds_dir, creds_dir]

/-! ## The start -/

/-- A device's memory in one direction. -/
def Mem (c : Dev nD) (di : Fin 2) : sProp 𝕄 :=
  iprop(owAny c (sendWhole di) ∗ barPay c di ∗ (owAny c (wSlot di 0) ∗ owAny c (wSlot di 1))
    ∗ run (fun t => ow c (wCol c di t) fullShare.right (wcol m c di t)) 8 0 ∗ run (fun k => owAny c (oCol c di k)) 8 0)

theorem runFrom_mono {P P' : ℕ → sProp 𝕄} (h : ∀ k, P k ⊢ P' k) (f n : ℕ) : runFrom P f n ⊢ runFrom P' f n := by
  induction f generalizing n with
  | zero => exact .rfl
  | succ f ih => exact BIClass.sep_mono (h n) (ih (n + 1))

variable (κ : Dev nD × Fin 26 → ℕ)

theorem pos_reached (c : Dev nD) (sm : SemLoc sig) (h : InRing sm) :
    iprop(ctx m κ ∗ atPos ER ((c : Thread nD τ), sm) 0 ∅ 0) ⊢ (iprop(atPos ER ((c : Thread nD τ), sm) 0 ∅ 0 ∗ reached ER ((c : Thread nD τ), sm) 0) : sProp 𝕄) := by
  iintro ⟨#Hx, H⟩
  isplitl [H]; · iexact H
  iapply (ctx_reached m κ c sm h); iexact Hx

theorem dir_intro (c : Dev nD) (di : Fin 2) :
    iprop(ctx m κ ∗ Toks c di ∗ Creds c di ∗ Mem m c di ∗ dirCells c di fun g => atPos ER g 0 ∅ 0) ⊢ (DirBegin m c di : sProp 𝕄) := by
  have hL : iprop(run (fun n => iprop(tSend c di n 0 ∗ tSend c di n 1)) 12 0 ∗ run (PreL c di) 12 0) ⊢ (run (tL c di) 12 0 : sProp 𝕄) :=
    Entails.of_eq (run_sep _ _ 12 0).symm
  have hW : iprop(run (fun t => dutyTok ER (wC c di (sl t)) (t / 2) 0) 8 0 ∗ run (fun t => ow c (wCol c di t) fullShare.right (wcol m c di t)) 8 0)
      ⊢ (run (tW m c di) 8 0 : sProp 𝕄) := by
    refine (Entails.of_eq (run_sep _ _ 8 0).symm).trans (runFrom_mono (fun t => ?_) _ _)
    show iprop(dutyTok ER (wC c di (sl t)) (t / 2) 0 ∗ ow c (wCol c di t) fullShare.right (wcol m c di t)) ⊢ tW m c di t
    unfold tW
    iintro ⟨A, B⟩
    isplitl [A]; · iexact A
    iexists _; iexact B
  have hS : iprop(run (fun k => dutyTok ER (storeC c di (sl k)) (k / 2) 0) 8 0 ∗ run (fun k => owAny c (oCol c di k)) 8 0)
      ⊢ (run (tSt c di) 8 0 : sProp 𝕄) := Entails.of_eq (run_sep _ _ 8 0).symm
  unfold Toks Creds Mem dirCells DirBegin Bank0 SS CR RR RP STs WFree StFree SendPos CredPos RecvPos
  iintro ⟨#Hx, ⟨Tsnd, Tcrd, Tw, Tst, Tbf⟩, ⟨Cpre, Crcv, Cbf⟩, ⟨Ms, Mb, ⟨Mw0, Mw1⟩, Mwc, Moc⟩, ⟨S0, S1⟩, ⟨⟨R00, R01⟩, R10, R11⟩, ⟨T0, T1⟩, ⟨W0, W1⟩, C0, C1⟩
  isplitl [Ms S0 S1 C0 C1 R00 R01 R10 R11 Tsnd Cpre Crcv Tcrd T0 T1 Tst Moc]
  · isplitl [Ms]; · iexact Ms
    isplitl [S0 S1]
    · isplitl [S0]
      · iapply (pos_reached m κ c _ (in_send di 0))
        isplitr; · iexact Hx
        iexact S0
      · iapply (pos_reached m κ c _ (in_send di 1))
        isplitr; · iexact Hx
        iexact S1
    isplitl [C0 C1 R00 R01 R10 R11 Tsnd Cpre Crcv]
    · isplitl [C0 C1]
      · isplitl [C0]
        · iexact C0
        · iexact C1
      isplitl [R00 R01 R10 R11]
      · isplitl [R00 R01]
        · isplitl [R00]
          · iexact R00
          · iexact R01
        · isplitl [R10]
          · iexact R10
          · iexact R11
      isplitl [Tsnd Cpre]
      · iapply hL
        isplitl [Tsnd] <;> iassumption
      · iexact Crcv
    isplitl [Tcrd]; · iexact Tcrd
    isplitl [T0 T1]
    · isplitl [T0]
      · iapply (pos_reached m κ c _ (in_store di 0))
        isplitr; · iexact Hx
        iexact T0
      · iapply (pos_reached m κ c _ (in_store di 1))
        isplitr; · iexact Hx
        iexact T1
    isplitl [Tst Moc]
    · iapply hS
      isplitl [Tst] <;> iassumption
    · unfold Done; iempintro
  isplitl [W0 W1 Mw0 Mw1 Tw Mwc]
  · isplitl [W0 Mw0]
    · isplitl [W0]
      · iapply (pos_reached m κ c _ (in_w di 0))
        isplitr; · iexact Hx
        iexact W0
      · iexact Mw0
    isplitl [W1 Mw1]
    · isplitl [W1]
      · iapply (pos_reached m κ c _ (in_w di 1))
        isplitr; · iexact Hx
        iexact W1
      · iexact Mw1
    iapply hW
    isplitl [Tw] <;> iassumption
  isplitl [Mb]; · iexact Mb
  isplitl [Tbf] <;> iassumption

/-! ## The end -/

/-- A cell past its last round is closed: its counter reads zero. -/
theorem close_cell (c : Dev nD) (sm : SemLoc sig) (hin : InRing sm) (R : ℕ) (hR : ∀ r, R ≤ r → dutiesK (kindOf sm) r = ∅) :
    iprop(ctx m κ ∗ atPos ER ((c : Thread nD τ), sm) R ∅ 0) ⊢ (|={Set.univ}=> semVal ((c : Thread nD τ), sm) 0 : sProp 𝕄) := by
  iintro ⟨#Hx, H⟩
  imod (Rounds.cell_close ER (ringRd m) (g := ((c : Thread nD τ), sm)) (κ := κ (c, idxOf sm)) (Es := Set.univ) (Set.mem_univ _) (fun h => h) (R := R) hR) $$ [H] with Hz
  · isplitr; · iapply (ctx_inv m κ c sm hin); iexact Hx
    iexact H
  imodintro; iexact Hz

/-- A device's memory in one direction at the end. -/
def MemEnd (c : Dev nD) (di : Fin 2) : sProp 𝕄 :=
  iprop(owAny c (sendWhole di) ∗ barPay c di ∗ (owAny c (wSlot di 0) ∗ owAny c (wSlot di 1)) ∗ run (Out m c di) 8 0)

theorem close_dir (c : Dev nD) (di : Fin 2) :
    iprop(ctx m κ ∗ DirEnd m c di) ⊢ (|={Set.univ}=> iprop((dirCells c di fun g => semVal g 0) ∗ MemEnd m c di) : sProp 𝕄) := by
  have hs : ∀ q r, 12 ≤ r → dutiesK (kindOf (.dma (sendS di q))) r = ∅ := fun q r h => by rw [kind_send]; exact if_neg (by omega)
  have hr : ∀ s q r, 6 ≤ r → dutiesK (kindOf (.dma (recvS di s q))) r = ∅ := fun s q r h => by rw [kind_recv]; exact if_neg (by omega)
  have ht : ∀ s r, 4 ≤ r → dutiesK (kindOf (.dma (storeS di s))) r = ∅ := fun s r h => by rw [kind_store]; exact if_neg (by omega)
  have hw : ∀ s r, 4 ≤ r → dutiesK (kindOf (.dma (wS di s))) r = ∅ := fun s r h => by rw [kind_w]; exact if_neg (by omega)
  have hc : ∀ s r, 5 ≤ r → dutiesK (kindOf (.reg (credS di s))) r = ∅ := fun s r h => by rw [kind_cred]; exact if_neg (by omega)
  have hd := done_eight m c di
  unfold DirEnd Idl Bank WAs
  rw [show WP c di 8 = (WFree c di 8 : sProp 𝕄) from rfl, show WP c di (8 + 1) = (WFree c di 9 : sProp 𝕄) from rfl,
    show Keep c di 10 = (Landed c di 10 : sProp 𝕄) from rfl]
  unfold SS CR RR RP STs WFree StFree SendPos CredPos RecvPos Landed dirCells MemEnd barPay
  iintro ⟨#Hx, ⟨⟨Ms, ⟨⟨S0, -⟩, S1, -⟩, ⟨⟨C0, C1⟩, ⟨⟨R00, R01⟩, R10, R11⟩, -, -⟩, -, ⟨⟨T0, -⟩, T1, -⟩, -, HD⟩, ⟨L10, L11⟩, -, -⟩, ⟨⟨L00, L01⟩, -, -⟩, ⟨⟨W0, -⟩, Mw0⟩, ⟨⟨W1, -⟩, Mw1⟩, -⟩
  imod (close_cell m κ c _ (in_send di 0) 12 (hs 0)) $$ [S0] with Z0
  · isplitr; · iexact Hx
    iexact S0
  imod (close_cell m κ c _ (in_send di 1) 12 (hs 1)) $$ [S1] with Z1
  · isplitr; · iexact Hx
    iexact S1
  imod (close_cell m κ c _ (in_recv di 0 0) 6 (hr 0 0)) $$ [R00] with Z2
  · isplitr; · iexact Hx
    iexact R00
  imod (close_cell m κ c _ (in_recv di 0 1) 6 (hr 0 1)) $$ [R01] with Z3
  · isplitr; · iexact Hx
    iexact R01
  imod (close_cell m κ c _ (in_recv di 1 0) 6 (hr 1 0)) $$ [R10] with Z4
  · isplitr; · iexact Hx
    iexact R10
  imod (close_cell m κ c _ (in_recv di 1 1) 6 (hr 1 1)) $$ [R11] with Z5
  · isplitr; · iexact Hx
    iexact R11
  imod (close_cell m κ c _ (in_store di 0) 4 (ht 0)) $$ [T0] with Z6
  · isplitr; · iexact Hx
    iexact T0
  imod (close_cell m κ c _ (in_store di 1) 4 (ht 1)) $$ [T1] with Z7
  · isplitr; · iexact Hx
    iexact T1
  imod (close_cell m κ c _ (in_w di 0) 4 (hw 0)) $$ [W0] with Z8
  · isplitr; · iexact Hx
    iexact W0
  imod (close_cell m κ c _ (in_w di 1) 4 (hw 1)) $$ [W1] with Z9
  · isplitr; · iexact Hx
    iexact W1
  imod (close_cell m κ c _ (in_cred di 0) 5 (hc 0)) $$ [C0] with Z10
  · isplitr; · iexact Hx
    iexact C0
  imod (close_cell m κ c _ (in_cred di 1) 5 (hc 1)) $$ [C1] with Z11
  · isplitr; · iexact Hx
    iexact C1
  imodintro
  isplitl [Z0 Z1 Z2 Z3 Z4 Z5 Z6 Z7 Z8 Z9 Z10 Z11]
  · isplitl [Z0 Z1]; · isplitl [Z0] <;> iassumption
    isplitl [Z2 Z3 Z4 Z5]
    · isplitl [Z2 Z3]
      · isplitl [Z2] <;> iassumption
      · isplitl [Z4] <;> iassumption
    isplitl [Z6 Z7]; · isplitl [Z6] <;> iassumption
    isplitl [Z8 Z9]; · isplitl [Z8] <;> iassumption
    isplitl [Z10] <;> iassumption
  isplitl [Ms]; · iexact Ms
  isplitl [L00 L01 L10 L11]
  · isplitl [L00 L01]
    · isplitl [L00]
      · iexact L00
      · iexact L01
    · isplitl [L10]
      · iexact L10
      · iexact L11
  isplitl [Mw0 Mw1]
  · isplitl [Mw0]
    · iexact Mw0
    · iexact Mw1
  iapply hd; iexact HD

end Cert.RingProof

end
-- ==== Proof.ProgEq.lean ====
/-
# The printed body is the program of named steps
-/
module

public import proofs.«01_k».proof.Proof.Prog

@[expose] public section

noncomputable section

namespace Cert.RingProof

open Cert.KernelIdeal Cert.KernelIdeal.Gen
open Idealize.ShloMosaic
open Idealize.ShloMosaic.TcCoe
open Idealize.SL Idealize.SL.Sem

variable {F : FTy → Type} [FloatOps F]

set_option maxRecDepth 65536 in
/-- The printed body, on the kernel's buffers and semaphores, is `body`. -/
theorem body_eq : cc0_body (F := F) xM (Memref.isWhole_whole _) wM (Memref.isWhole_whole _) oM (Memref.isWhole_whole _)
    sM (Memref.isWhole_whole _) rM (Memref.isWhole_whole _) wsM (Memref.isWhole_whole _)
    cc0_scratch3 cc0_scratch4 cc0_scratch5 cc0_scratch6 cc0_scratch7 cc0_scoped0 = body := by
  chain_rfl

end Cert.RingProof

end
-- ==== Proof.Body.lean ====
/-
# The body at a launch

What a device holds before its kernel and after it, and the run from one to the other.
-/
module

public import proofs.«01_k».proof.Proof.Ghost
public import proofs.«01_k».proof.Proof.ProgEq
public import proofs.«01_k».proof.Proof.Gen.KernelIdeal.Launch
public import proofs.«01_k».proof.Proof.Gen.KernelIdeal.Points
public import Idealize.ShloMosaic.Lib.Pipeline.Launch

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig ℕ (Elt F) ℕ UU ℕ

variable (m : (ℓ : Loc nD τ sig) → Buf (Elt F) ℓ)

/-! ## Memory before and after -/

/-- The kernel's scratch buffers, each at some contents. -/
def Scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))
/-- One direction's part of them. -/
def ScrD (c : Dev nD) (di : Fin 2) : sProp 𝕄 :=
  iprop(owAny c (sendWhole di) ∗ barPay c di ∗ (owAny c (wSlot di 0) ∗ owAny c (wSlot di 1)))

/-- The scratch buffers are the two directions' parts. -/
theorem scratch_eq (m : (ℓ : Loc nD τ sig) → Buf (Elt F) ℓ) (c : Dev nD) : (Scratch c : sProp 𝕄) = iprop(ScrD c 0 ∗ ScrD c 1) := by
  have h1 : (Scratch c : sProp 𝕄) ⊢ iprop(ScrD c 0 ∗ ScrD c 1) := by
    unfold Scratch
    rw [send_any m, recv_any m, w_any m]
    simp only [slot_any]
    unfold ScrD barPay
    iintro ⟨⟨S0, S1⟩, ⟨R0, R1⟩, W0, W1⟩
    isplitl [S0 R0 W0]
    · isplitl [S0]; · iexact S0
      isplitl [R0] <;> iassumption
    · isplitl [S1]; · iexact S1
      isplitl [R1] <;> iassumption
  have h2 : iprop(ScrD c 0 ∗ ScrD c 1) ⊢ (Scratch c : sProp 𝕄) := by
    unfold Scratch
    rw [send_any m, recv_any m, w_any m]
    simp only [slot_any]
    unfold ScrD barPay
    iintro ⟨⟨S0, R0, W0⟩, S1, R1, W1⟩
    isplitl [S0 S1]; · isplitl [S0] <;> iassumption
    isplitl [R0 R1]; · isplitl [R0] <;> iassumption
    isplitl [W0] <;> iassumption
  exact BI.equiv_iff.mp ⟨h1, h2⟩

/-- What the launch gives a device besides its scratch buffers: the ring's cells and levels, its positions, tokens and
    credits, its rows of `w` and the result array. -/
def start (c : Dev nD) : sProp 𝕄 :=
  iprop((∃ κ, ctx m κ) ∗ (bigSep Finset.univ fun k : Fin 26 => atPos ER (kcell (c, k)) 0 ∅ 0) ∗ (Toks c 0 ∗ Toks c 1)
    ∗ (Creds c 0 ∗ Creds c 1) ∗ ((c : Thread nD τ).loc main_arg1 ↦{fullShare} m ((c : Thread nD τ).loc main_arg1))
    ∗ ((c : Thread nD τ).loc main_v1 ↦{fullShare} m ((c : Thread nD τ).loc main_v1)))

/-- What a device holds before its kernel. -/
def Φ₀ (c : Dev nD) : sProp 𝕄 := iprop(start m c ∗ Scratch c)
/-- What it holds after it: every cell closed at zero, the weights unchanged, the result. -/
def Φ₁ (c : Dev nD) : sProp 𝕄 :=
  iprop((bigSep Finset.univ fun k : Fin 26 => semVal (kcell (c, k)) 0) ∗ Scratch c
    ∗ ((c : Thread nD τ).loc main_arg1 ↦{fullShare.left} m ((c : Thread nD τ).loc main_arg1))
    ∗ ((c : Thread nD τ).loc main_v1 ↦{fullShare} OUT m))

theorem w_share (c : Dev nD) :
    ((c : Thread nD τ).loc main_arg1 ↦{fullShare} m ((c : Thread nD τ).loc main_arg1) : sProp 𝕄)
      ⊢ iprop(((c : Thread nD τ).loc main_arg1 ↦{fullShare.left} m ((c : Thread nD τ).loc main_arg1))
        ∗ ((c : Thread nD τ).loc main_arg1 ↦{fullShare.right} m ((c : Thread nD τ).loc main_arg1))) :=
  (pointsTo_share (PosShare.mem_left_op_right fullShare)).1

/-- A device's memory before the kernel, by direction; a share of the weights stays out. -/
theorem mem_begin (c : Dev nD) :
    iprop(((c : Thread nD τ).loc main_arg1 ↦{fullShare} m ((c : Thread nD τ).loc main_arg1))
        ∗ ((c : Thread nD τ).loc main_v1 ↦{fullShare} m ((c : Thread nD τ).loc main_v1)) ∗ Scratch c)
      ⊢ iprop((Mem m c 0 ∗ Mem m c 1) ∗ ((c : Thread nD τ).loc main_arg1 ↦{fullShare.left} m ((c : Thread nD τ).loc main_arg1)) : sProp 𝕄) := by
  have hw := Entails.of_eq (w_split m c fullShare.right)
  have ho := Entails.of_eq (o_any m c)
  rw [scratch_eq m]
  unfold ScrD Mem
  iintro ⟨Hw, Ho, ⟨⟨S0, R0, W0⟩, S1, R1, W1⟩⟩
  ihave H := (w_share m c) $$ Hw
  icases H with ⟨Hl, Hr⟩
  ihave H := hw $$ Hr
  icases H with ⟨X0, X1⟩
  ihave H := ho $$ [Ho]
  · iexists _; iexact Ho
  icases H with ⟨O0, O1⟩
  isplitr [Hl]
  · isplitl [S0 R0 W0 X0 O0]
    · isplitl [S0]; · iexact S0
      isplitl [R0]; · iexact R0
      isplitl [W0]; · iexact W0
      isplitl [X0] <;> iassumption
    · isplitl [S1]; · iexact S1
      isplitl [R1]; · iexact R1
      isplitl [W1]; · iexact W1
      isplitl [X1] <;> iassumption
  · iexact Hl

/-- The memory put together after it. -/
theorem mem_end (c : Dev nD) :
    iprop(MemEnd m c 0 ∗ MemEnd m c 1) ⊢ (iprop(Scratch c ∗ ((c : Thread nD τ).loc main_v1 ↦{fullShare} OUT m)) : sProp 𝕄) := by
  have ho := Entails.of_eq (o_join m c)
  rw [scratch_eq m]
  unfold ScrD MemEnd
  iintro ⟨⟨S0, R0, W0, O0⟩, S1, R1, W1, O1⟩
  isplitr [O0 O1]
  · isplitl [S0 R0 W0]
    · isplitl [S0]; · iexact S0
      isplitl [R0] <;> iassumption
    · isplitl [S1]; · iexact S1
      isplitl [R1] <;> iassumption
  · iapply ho
    isplitl [O0] <;> iassumption

/-! ## The run of the body -/

theorem body_begin (κ : Dev nD × Fin 26 → ℕ) (c : Dev nD) :
    iprop(ctx m κ ∗ (bigSep Finset.univ fun k : Fin 26 => atPos ER (kcell (c, k)) 0 ∅ 0) ∗ (Toks c 0 ∗ Toks c 1)
        ∗ (Creds c 0 ∗ Creds c 1) ∗ (Mem m c 0 ∗ Mem m c 1))
      ⊢ iprop(DirBegin m c 0 ∗ DirBegin m c 1 ∗ (atPos ER (barC c) 0 ∅ 0 ∗ atPos ER (endC c) 0 ∅ 0) : sProp 𝕄) := by
  rw [cells_eq c (fun g => (atPos ER g 0 ∅ 0 : sProp 𝕄))]
  iintro ⟨#Hx, ⟨⟨P0, P1⟩, PB⟩, ⟨T0, T1⟩, ⟨C0, C1⟩, M0, M1⟩
  isplitl [P0 T0 C0 M0]
  · iapply (dir_intro m κ c 0)
    isplitr; · iexact Hx
    isplitl [T0]; · iexact T0
    isplitl [C0]; · iexact C0
    isplitl [M0] <;> iassumption
  isplitl [P1 T1 C1 M1]
  · iapply (dir_intro m κ c 1)
    isplitr; · iexact Hx
    isplitl [T1]; · iexact T1
    isplitl [C1]; · iexact C1
    isplitl [M1] <;> iassumption
  iexact PB

theorem body_end (κ : Dev nD × Fin 26 → ℕ) (c : Dev nD) :
    iprop(ctx m κ ∗ DirEnd m c 0 ∗ DirEnd m c 1 ∗ (atPos ER (barC c) 1 ∅ 0 ∗ atPos ER (endC c) 1 ∅ 0)
        ∗ ((c : Thread nD τ).loc main_arg1 ↦{fullShare.left} m ((c : Thread nD τ).loc main_arg1)))
      ⊢ (|={Set.univ}=> Φ₁ m c : sProp 𝕄) := by
  have hm := mem_end m c
  unfold Φ₁
  rw [cells_eq c (fun g => (semVal g 0 : sProp 𝕄))]
  iintro ⟨#Hx, D0, D1, ⟨PB, PE⟩, Hl⟩
  imod (close_dir m κ c 0) $$ [D0] with ⟨Z0, M0⟩
  · isplitr; · iexact Hx
    iexact D0
  imod (close_dir m κ c 1) $$ [D1] with ⟨Z1, M1⟩
  · isplitr; · iexact Hx
    iexact D1
  imod (close_cell m κ c _ in_bar 1 fun r h => by rw [kind_bar]; exact if_neg (by omega)) $$ [PB] with ZB
  · isplitr; · iexact Hx
    iexact PB
  imod (close_cell m κ c _ in_fin 1 fun r h => by rw [kind_fin]; exact if_neg (by omega)) $$ [PE] with ZE
  · isplitr; · iexact Hx
    iexact PE
  imodintro
  ihave H := hm $$ [M0 M1]
  · isplitl [M0] <;> iassumption
  icases H with ⟨HS, HO⟩
  isplitl [Z0 Z1 ZB ZE]
  · isplitl [Z0 Z1]
    · isplitl [Z0] <;> iassumption
    · isplitl [ZB] <;> iassumption
  isplitl [HS]; · iexact HS
  isplitl [Hl] <;> iassumption

/-- What closing the cells updates is done at the program's end. -/
theorem wp_done (c : Dev nD) (p : PG F PUnit) (Q : PUnit → sProp 𝕄) : Wp c p (fun a => iprop(|={Set.univ}=> Q a)) ⊢ Wp c p Q :=
  wp_fupd _ _ _ p Q

/-- The body of device `c` runs from what the launch gives it to the result. -/
theorem sound_body (c : Dev nD) :
    iprop(Φ₀ m c ∗ Xst m c ∗ Ow c (rest 0)) ⊢ Wp c body fun _ => (iprop(Φ₁ m c ∗ Xst m c ∗ Ow c []) : sProp 𝕄) := by
  refine BIBase.Entails.trans ?_ (wp_done c body fun _ => (iprop(Φ₁ m c ∗ Xst m c ∗ Ow c []) : sProp 𝕄))
  unfold Φ₀ start
  iintro ⟨⟨⟨⟨%κ, #Hx⟩, HP, HT, HC, Hw, Ho⟩, HS⟩, HX, HO⟩
  ihave H := (mem_begin m c) $$ [Hw Ho HS]
  · isplitl [Hw]; · iexact Hw
    isplitl [Ho] <;> iassumption
  icases H with ⟨HM, Hl⟩
  ihave H := (body_begin m κ c) $$ [HP HT HC HM]
  · isplitr; · iexact Hx
    isplitl [HP]; · iexact HP
    isplitl [HT]; · iexact HT
    isplitl [HC] <;> iassumption
  icases H with ⟨D0, D1, PB⟩
  iapply (wp_body m κ c _) $$ [D0 D1 PB HX HO]
  · isplitr; · iexact Hx
    isplitl [D0]; · iexact D0
    isplitl [D1]; · iexact D1
    isplitl [PB]; · iexact PB
    isplitl [HX] <;> iassumption
  iintro ⟨D0, D1, PB, HX, HO⟩
  imod (body_end m κ c) $$ [D0 D1 PB Hl] with H
  · isplitr; · iexact Hx
    isplitl [D0]; · iexact D0
    isplitl [D1]; · iexact D1
    isplitl [PB] <;> iassumption
  imodintro
  isplitl [H]; · iexact H
  isplitl [HX] <;> iassumption

/-! ## The pipeline's data -/

/-- The pipeline's one point: before it `Φ₀` and all payments owed, after it `Φ₁` and none. -/
def dats (_ : Fin 1) (c : Dev nD) : Dat τ (Elt F) ℕ ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => owed0 c
    | ⟨_ + 1, _⟩ => 0

/-- The staged block at contents `X`. -/
abbrev stgX (c : Dev nD) (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0 ↦{fullShare} f))

theorem owns_stg (c : Dev nD) (X : (cc0_stg0_0 : Ref sig .tc).ty.Contents (Elt F)) :
    (owns (Ix := ℕ) (Name := ℕ) (U := UU) (Lvl := ℕ) (c : Thread nD τ) (Memref.whole cc0_stg0_0) fullShare X : sProp 𝕄) = stgX c X := by
  unfold owns; simp only [Memref.view_whole, View.read_whole, View.set_whole]

theorem before_x (c : Dev nD) (d) : (dats m 0 c).before (0 : Fin 1) t0_0 d = xstg m c := by
  unfold Dat.before; rw [if_pos (fetch0_0 t0_0)]; rfl

set_option maxRecDepth 65536 in
/-- The body obligation of the pipeline on device `c`. -/
theorem body_obligation (c : Dev nD) : BodyObligation (dats (F := F) m 0 c) (defs₀ (F := F)) 𝒱₀ (0 : ℕ) Set.univ := fun t => by
  rw [fin_N0 t]
  rw [bigSep_W0, bigSep_W0]
  show iprop(Φ₀ m c ∗ (dats m 0 c).owesAt 0 t0_0.castSucc
      ∗ (∃ d, owns (c : Thread nD τ) (Memref.whole cc0_stg0_0) fullShare ((dats m 0 c).before (0 : Fin 1) t0_0 d)))
    ⊢ Wp c (cc0_body (F := F) xM (Memref.isWhole_whole _) wM (Memref.isWhole_whole _) oM (Memref.isWhole_whole _)
        sM (Memref.isWhole_whole _) rM (Memref.isWhole_whole _) wsM (Memref.isWhole_whole _)
        cc0_scratch3 cc0_scratch4 cc0_scratch5 cc0_scratch6 cc0_scratch7 cc0_scoped0)
      fun _ => iprop(Φ₁ m c ∗ (dats m 0 c).owesAt 0 t0_0.succ ∗ owns (c : Thread nD τ) (Memref.whole cc0_stg0_0) fullShare (xstg m c))
  rw [body_eq]
  simp only [before_x, owns_stg]
  refine BIBase.Entails.trans ?_ ((sound_body m c).trans (wp_mono _ _ _ fun _ => ?_))
  · unfold Dat.owesAt Pipeline.owesWithin
    iintro ⟨HF, ⟨%W, %hW, HO⟩, ⟨%d, %f, %hf, HX⟩⟩
    subst hf
    isplitl [HF]; · iexact HF
    isplitl [HX]
    · unfold Xst; iexact HX
    · unfold Ow; iexists W; iexact HO
  · unfold Dat.owesAt Pipeline.owesWithin Ow Xst
    iintro ⟨HF, HX, ⟨%W, HO⟩⟩
    isplitl [HF]; · iexact HF
    isplitl [HO]
    · iexists W
      isplitr; · ipureintro; exact fun _ _ => Or.inl trivial
      iexact HO
    · iexists _; isplitr; · ipureintro; rfl
      iexact HX

end Cert.RingProof

end
-- ==== Proof.Launch.lean ====
/-
# The launch

The ring's cells opened for all devices at once, what each starts from dealt out, the kernels run, and the final memory read:
every result array at the computed contents, the inputs unchanged, every semaphore at zero.
-/
module

public import proofs.«01_k».proof.Proof.Body
public import Idealize.ShloMosaic.Lib.Pipeline.CollectiveSegs
public import Idealize.ShloMosaic.Lib.Quiescent

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores -/

/-- The kernel's own semaphores among the ring's: all but the runtime's barrier. -/
def ownIx (k : Fin 25) : Fin 26 := if h : k.val < 24 then ⟨k.val, by omega⟩ else 25
abbrev osem (k : Fin 25) : SemLoc sig := csem (ownIx k)

set_option maxRecDepth 16000 in
theorem ownSemFacts : Pipeline.OwnSemFacts cfg0.spec osem := by decide

def splitIx : Fin 25 ⊕ Unit → Fin 26
  | .inl k => ownIx k
  | .inr _ => 24
theorem splitIx_bij : Function.Bijective splitIx := by decide

theorem kcell_inj : Function.Injective (kcell : Dev nD × Fin 26 → GSem nD τ sig) := by
  rintro ⟨c, k⟩ ⟨e, l⟩ h
  have h1 : c = e := congrArg (fun g : GSem nD τ sig => g.1.1) h
  have h2 : csem k = csem l := congrArg Prod.snd h
  have h3 : k = l := by rw [← idx_csem k, ← idx_csem l, h2]
  rw [h1, h3]
def ringCells : Finset (GSem nD τ sig) := Finset.univ.map ⟨kcell, kcell_inj⟩

theorem unscoped_eq (c : Dev nD) : (unscopedSems0 c : sProp 𝕄) = semVal (barC c) 0 := by
  unfold unscopedSems0; rw [bigSep_eq_bigSepL_of_eq [SemLoc.reg barS] (by decide) (by decide)]; rfl

/-- A device's own semaphores and the runtime's barrier are the ring's. -/
theorem sems_eq (c : Dev nD) :
    (bigSep Finset.univ fun k : Fin 26 => semVal (kcell (c, k)) 0 : sProp 𝕄)
      = iprop(Pipeline.ownSems0 (Ix := ℕ) (Name := ℕ) (U := UU) (Lvl := ℕ) (Val := Elt F) (τ := τ) osem c ∗ unscopedSems0 c) := by
  rw [unscoped_eq, bigSep_univ_equiv (Equiv.ofBijective _ splitIx_bij), bigSep_univ_sum]
  refine congrArg₂ BI.sep rfl ?_
  exact bigSep_univ_eq_bigSepL [()] (by decide) (by decide) _

/-! ## The ghost state -/

def u₀ : UU := (initOf (Pipeline.cells cfgs cellOf_inj) (Pipeline.launchToks cfgs cellOf_inj), initOf ringCells ringToks)

/-- A device's share of what is minted: each of its cells at round 0, its position there, and the tokens it pays with. -/
def Minted (c : Dev nD) : sProp 𝕄 :=
  iprop((bigSep Finset.univ fun k : Fin 26 => roundState ER (ringRd m) (kcell (c, k)) 0)
    ∗ (bigSep Finset.univ fun k : Fin 26 => atPos ER (kcell (c, k)) 0 ∅ 0) ∗ (bigSep Finset.univ fun k : Fin 26 => reached ER (kcell (c, k)) 0)
    ∗ (Toks c 0 ∗ Toks c 1))

/-- A device's share once the cells are open. -/
def Opened (c : Dev nD) : sProp 𝕄 :=
  iprop(∃ κ : Dev nD × Fin 26 → ℕ, (bigSep Finset.univ fun ck : Dev nD × Fin 26 => cellInv ER (ringRd m) (κ ck) (kcell ck))
    ∗ (bigSep Finset.univ fun ck : Dev nD × Fin 26 => reached ER (kcell ck) 0)
    ∗ (bigSep Finset.univ fun k : Fin 26 => atPos ER (kcell (c, k)) 0 ∅ 0) ∗ (Toks c 0 ∗ Toks c 1))

/-- Over the ring's cells is over the devices' cells. -/
theorem over_cells (Φ : GSem nD τ sig → sProp 𝕄) :
    bigSep ringCells Φ = bigSep Finset.univ fun c : Dev nD => bigSep Finset.univ fun k : Fin 26 => Φ (kcell (c, k)) := by
  unfold ringCells; rw [bigSep_map, bigSep_univ_prod]; rfl

theorem mint : BI.own (ER (initOf ringCells ringToks)) ⊢ (|==> bigSep Finset.univ (Minted m) : sProp 𝕄) := by
  have e1 := Entails.of_eq (over_cells (F := F) fun g => roundState ER (ringRd m) g 0)
  have e2 := Entails.of_eq (over_cells (F := F) fun g => atPos ER g 0 ∅ 0)
  have e3 := Entails.of_eq (over_cells (F := F) fun g => reached ER g 0)
  have e4 : iprop((bigSep Finset.univ fun c : Dev nD => bigSep Finset.univ fun k : Fin 26 => roundState ER (ringRd m) (kcell (c, k)) 0)
      ∗ (bigSep Finset.univ fun c : Dev nD => bigSep Finset.univ fun k : Fin 26 => atPos ER (kcell (c, k)) 0 ∅ 0)
      ∗ (bigSep Finset.univ fun c : Dev nD => bigSep Finset.univ fun k : Fin 26 => reached ER (kcell (c, k)) 0)
      ∗ (bigSep Finset.univ fun c : Dev nD => iprop(Toks c 0 ∗ Toks c 1))) ⊢ (bigSep Finset.univ (Minted m) : sProp 𝕄) := by
    unfold Minted; simp only [bigSep_sep']; exact BI.Entails.refl (M := 𝕄) _
  iintro H
  imod (Rounds.fund ER (ringRd m) ringCells ringToks) $$ H with ⟨Hst, Hre, Hat, Htok⟩
  imodintro
  iapply e4
  isplitl [Hst]; · iapply e1; iexact Hst
  isplitl [Hat]; · iapply e2; iexact Hat
  isplitl [Hre]; · iapply e3; iexact Hre
  iapply (toks_all (F := F)); iexact Htok

/-- A device's cells opened, each under some name. -/
theorem open_cells (c : Dev nD) :
    iprop((bigSep Finset.univ fun k : Fin 26 => semVal (kcell (c, k)) 0)
        ∗ bigSep Finset.univ fun k : Fin 26 => roundState ER (ringRd m) (kcell (c, k)) 0)
      ⊢ (|={Set.univ}=> bigSep Finset.univ fun k : Fin 26 => iprop(∃ n : ℕ, cellInv ER (ringRd m) n (kcell (c, k))) : sProp 𝕄) := by
  rw [← bigSep_sep']
  exact (bigSep_mono fun k _ => (Rounds.body_intro ER (ringRd m) (kcell (c, k))).trans inv_alloc).trans (bigSep_fupd _ _)

theorem open_dev (c : Dev nD) :
    iprop(Pipeline.ownSems0 (Ix := ℕ) (Name := ℕ) (U := UU) (Lvl := ℕ) (Val := Elt F) (τ := τ) osem c ∗ unscopedSems0 c ∗ Minted m c)
      ⊢ (|={Set.univ}=> iprop((bigSep Finset.univ fun k : Fin 26 => iprop(∃ n : ℕ, cellInv ER (ringRd m) n (kcell (c, k))))
        ∗ (bigSep Finset.univ fun k : Fin 26 => reached ER (kcell (c, k)) 0)
        ∗ ((bigSep Finset.univ fun k : Fin 26 => atPos ER (kcell (c, k)) 0 ∅ 0) ∗ (Toks c 0 ∗ Toks c 1))) : sProp 𝕄) := by
  have hs := Entails.of_eq (sems_eq (F := F) c).symm
  unfold Minted
  iintro ⟨Ho, Hu, Hst, Hat, Hre, Ht⟩
  imod (open_cells m c) $$ [Ho Hu Hst] with HI
  · isplitl [Ho Hu]
    · iapply hs; isplitl [Ho] <;> iassumption
    · iexact Hst
  imodintro
  isplitl [HI]; · iexact HI
  isplitl [Hre]; · iexact Hre
  isplitl [Hat] <;> iassumption

/-- A persistent fact goes to every device. -/
theorem to_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- What all devices know of the cells. -/
def Known (κ : Dev nD × Fin 26 → ℕ) : sProp 𝕄 :=
  iprop((bigSep Finset.univ fun ck : Dev nD × Fin 26 => cellInv ER (ringRd m) (κ ck) (kcell ck))
    ∗ (bigSep Finset.univ fun ck : Dev nD × Fin 26 => reached ER (kcell ck) 0))
instance known_persistent (κ : Dev nD × Fin 26 → ℕ) : BI.Persistent (Known m κ) := by unfold Known; infer_instance

theorem share_known :
    (bigSep Finset.univ fun c : Dev nD => iprop((bigSep Finset.univ fun k : Fin 26 => iprop(∃ n : ℕ, cellInv ER (ringRd m) n (kcell (c, k))))
        ∗ (bigSep Finset.univ fun k : Fin 26 => reached ER (kcell (c, k)) 0)
        ∗ ((bigSep Finset.univ fun k : Fin 26 => atPos ER (kcell (c, k)) 0 ∅ 0) ∗ (Toks c 0 ∗ Toks c 1))) : sProp 𝕄)
      ⊢ bigSep Finset.univ (Opened m) := by
  rw [bigSep_sep', bigSep_sep', ← bigSep_univ_prod (fun ck : Dev nD × Fin 26 => iprop(∃ n : ℕ, cellInv ER (ringRd m) n (kcell ck))),
    ← bigSep_univ_prod (fun ck : Dev nD × Fin 26 => (reached ER (kcell ck) 0 : sProp 𝕄))]
  have hn := BI.bigSep_exists_pi Finset.univ (fun (ck : Dev nD × Fin 26) (n : ℕ) => (cellInv ER (ringRd m) n (kcell ck) : sProp 𝕄))
  iintro ⟨HI, #HR, HL⟩
  ihave H := hn $$ HI
  icases H with ⟨%κ, #HI⟩
  have hd : ∀ c : Dev nD, iprop(Known m κ ∗ ((bigSep Finset.univ fun k : Fin 26 => atPos ER (kcell (c, k)) 0 ∅ 0) ∗ (Toks c 0 ∗ Toks c 1)))
      ⊢ (Opened m c : sProp 𝕄) := by
    intro c
    unfold Known Opened
    iintro ⟨⟨#H1, #H2⟩, HP, HT⟩
    iexists κ
    isplitr; · iexact H1
    isplitr; · iexact H2
    isplitl [HP] <;> iassumption
  iapply (to_all hd)
  isplitr
  · unfold Known; isplitr
    · iexact HI
    · iexact HR
  · iexact HL

/-- The step that opens every device's cells at once. -/
theorem open_all :
    (bigSep Finset.univ fun c => iprop(Pipeline.ownSems0 (Ix := ℕ) (Name := ℕ) (U := UU) (Lvl := ℕ) (Val := Elt F) (τ := τ) osem c
        ∗ unscopedSems0 c ∗ Minted m c) : sProp 𝕄) ⊢ |={Set.univ}=> bigSep Finset.univ (Opened m) :=
  ((bigSep_mono fun c _ => open_dev m c).trans (bigSep_fupd _ _)).trans (BI.fupd_mono (share_known m))

/-! ## Entry and exit -/

theorem start_intro (c : Dev nD) :
    iprop(Pipeline.unscopedRestP Pipeline.Prefetch.none cfg0.spec c (fun b => m ((c : Thread nD τ).loc b)) ∗ levAts (SiteBlocks.L 100) SiteBlocks.lv
        ∗ Pipeline.launchCred owed0 c ∗ prngReg c (ρ c) ∗ Opened m c)
      ⊢ (|={Set.univ}=> iprop(start m c ∗ emp) : sProp 𝕄) := by
  rw [Pipeline.unscopedRestP_none, unscopedRest0_eq, creds_all]
  unfold Opened start ctx
  iintro ⟨⟨Hw, Ho⟩, #HL, HC, -, ⟨%κ, #HI, #HR, HP, HT⟩⟩
  imodintro
  isplitl
  · isplitr
    · iexists κ
      isplitr; · iexact HI
      isplitr; · iexact HR
      iexact HL
    isplitl [HP]; · iexact HP
    isplitl [HT]; · iexact HT
    isplitl [HC]; · iexact HC
    isplitl [Hw] <;> iassumption
  · iempintro

theorem enter (c : Dev nD) :
    iprop(start m c ∗ Pipeline.prefHeld Pipeline.Prefetch.none c (fun _ => fullShare.right) (fun k => k.elim0) ∗ Pipeline.scopedRest cfg0.spec c)
      ⊢ ((dats m 0 c).Φ 0 : sProp 𝕄) := by
  rw [show (dats m 0 c).Φ 0 = Φ₀ m c from rfl, scopedRest0_eq]
  unfold Φ₀ Scratch
  iintro ⟨Hs, -, Hr⟩
  isplitl [Hs] <;> iassumption

/-- What is read at the end: the runtime's barrier, the weights, the result. -/
def Fin' (c : Dev nD) : sProp 𝕄 :=
  iprop(unscopedSems0 c ∗ ((c : Thread nD τ).loc main_arg1 ↦{fullShare.left} m ((c : Thread nD τ).loc main_arg1))
    ∗ ((c : Thread nD τ).loc main_v1 ↦{fullShare} OUT m))

theorem leave (c : Dev nD) :
    ((dats m 0 c).Φ (Fin.last cfg0.N) : sProp 𝕄) ⊢ iprop(Fin' m c ∗ Pipeline.ownSems0 osem c ∗ Pipeline.scopedRest cfg0.spec c) := by
  rw [show (dats m 0 c).Φ (Fin.last cfg0.N) = Φ₁ m c from rfl, scopedRest0_eq]
  unfold Φ₁ Fin' Scratch
  rw [sems_eq]
  iintro ⟨⟨Ho, Hu⟩, Hs, Hw, Hv⟩
  isplitl [Hu Hw Hv]
  · isplitl [Hu]; · iexact Hu
    isplitl [Hw] <;> iassumption
  isplitl [Ho] <;> iassumption

/-- What device `c`'s part of the final memory shows. -/
def Reads (c : Dev nD) (s : MemSt nD τ sig (Elt F)) : Prop :=
  (s.mem ((c : Thread nD τ).loc main_arg1) = m ((c : Thread nD τ).loc main_arg1) ∧ s.mem ((c : Thread nD τ).loc main_v1) = OUT m)
    ∧ ∀ sm : SemLoc sig, sm.isScoped .tc = false → s.sem ((c.tc : Thread nD τ), sm) = 0

theorem read_end (c : Dev nD) (s' : Phys nD τ sig (Elt F)) :
    iprop(Fin' m c ∗ emp ∗ SI s') ⊢ (|={Set.univ}=> iprop(⌜Reads m c s'.mem⌝ ∗ SI s') : sProp 𝕄) := by
  unfold Fin' Reads
  iintro ⟨⟨Hu, Hw, Hv⟩, -, HSI⟩
  icombine HSI Hw gives %h1
  icombine HSI Hv gives %h2
  imod (Pipeline.unscopedSems0_read (X := unscopedSems0 c) (c := c) fupd_intro s') $$ [Hu HSI] with ⟨%h3, HSI⟩
  · isplitl [Hu] <;> iassumption
  imodintro
  isplitr
  · ipureintro
    exact ⟨⟨Buf.eq_of_forall_mem_univ h1, Buf.eq_of_forall_mem_univ h2⟩, h3⟩
  · iexact HSI

theorem share_full (c : Dev nD) (w : Fin cfg0.W) : (dats m 0 c).share w = fullShare := by unfold Dat.share; split <;> rfl

/-- The staging waits come before every payment. -/
theorem waits (c : Dev nD) : (levAts (SiteBlocks.L 100) SiteBlocks.lv : sProp 𝕄) ⊢ Pipeline.cellsWaits cfgs (dats m) (0 : ℕ) 0 c :=
  Pipeline.cellsWaits_intro cfgs (dats m) (0 : ℕ) 0 c fun w s t => by
    rcases t with ⟨_ | t, ht⟩
    · refine SiteBlocks.mayWait_of (show 0 < 100 by decide) c _ (owed0 c) fun g k hk => ?_
      obtain ⟨x, hx, rfl, rfl⟩ := TalkSites.tallyL_pos hk
      obtain ⟨y, hy, rfl⟩ := List.mem_map.mp hx
      obtain ⟨h1, h2⟩ := (show ∀ y ∈ rest 0, 0 < y.ix ∧ y.ix < 100 by decide) y hy
      exact ⟨SiteBlocks.mem_L' (by cases y <;> rfl) h2, h1⟩
    · show _ ⊢ MayWait _ _ _ 0
      rw [MayWait_zero]; iintro -; iempintro

/-! ## The run -/

def s₀ : MemSt nD τ sig (Elt F) := ⟨m, fun _ => 0, ρ⟩

/-- The final memory: on every device the inputs unchanged and the result at the computed contents. -/
def Final (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = OUT m

set_option maxRecDepth 65536 in
/-- For any float values, from any memory with all semaphores at zero: every weakly fair execution of the four devices' kernels
    terminates, with the inputs unchanged, every result array at the computed contents and every semaphore at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := owed0) (howed₀ := fun _ => rfl) (howedN := fun _ => rfl)
    (L := SiteBlocks.L 100) (lv := SiteBlocks.lv) (hL := SiteBlocks.hL 100) (hwaits := waits m)
    (G := Minted m) (G' := Opened m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := open_all m)
    (hA := fun _ _ => rfl) (hpf := fun _ k => k.elim0)
    (X := start m) (Y := Fin' m) (Z := fun _ => iprop(emp))
    (hX := start_intro m ρ) (hin := enter m) (hout := leave m)
    (QY := Reads m) (hY := read_end m)
    (hQ := fun _ h hs => ⟨fun c => ⟨((h c).1 (0 : Fin 1)).trans ((dats (F := F) m 0 c).arrAt_in (0 : Fin 1) rfl _), (h c).2.2.1.1, (h c).2.2.1.2⟩,
      sem_eq_zero hs fun c => (h c).2.2.2⟩)

end Cert.RingProof

end
-- ==== Proof.Value.lean ====
/-
# The value

At the ideal values, where a float is an extended real and a cast is the identity: what the devices compute is, at every
row and column, the gelu of the whole product's entry. Each of the four terms a block's running sum collects is one device's
1024 of the 4096 products, so the four together are the whole inner product, in some order.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.IdealHost

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

open Idealize.ShloMosaic.ValueIdx
open scoped BigOperators

/-! ## One entry -/

/-- The tanh approximation of gelu at one extended real. -/
def gelu1 (e : EReal) : EReal :=
  (Ideal.ofBits .f32 0x3F000000#32 * e)
    * (Ideal.ofBits .f32 0x3F800000#32
      + Ideal.tanh (Ideal.ofBits .f32 0x3F4C422A#32 * (e + Ideal.ofBits .f32 0x3D372713#32 * ((e * e) * e))))

/-- One entry of the result: the gelu of the inner product of a row of `X` and a column of `W`. -/
def outEntry (X : (⟨2, ![4096, 4096]⟩ : Shape).Idx → EReal) (W : (⟨2, ![4096, 8192]⟩ : Shape).Idx → EReal) (r : Fin 4096) (j : Fin 8192) : EReal :=
  gelu1 (∑ k : Fin 4096, X (ix2 r k) * W (ix2 k j))

/-- The kernel's gelu is taken entry by entry. -/
theorem gelu_at (a : FVec Ideal S4096x512 .bf16) (i : S4096x512.Idx) : geluV a i = gelu1 (a i) := rfl

/-- A rounded product of a block of rows and a block of columns, entry by entry. -/
theorem dot_at (x : Vec Ideal S4096x1024 .bf16) (w : FVec Ideal S1024x512 .bf16) (r : Fin 4096) (l : Fin 512) :
    dotV x w (ix2 r l) = ∑ k : Fin 1024, (x (ix2 r k) : EReal) * (w (ix2 k l) : EReal) := by
  have h := Ideal.matmul_plain_apply (φ₁ := .bf16) (φ₂ := .bf16) none (shapeCast S4096x1024 x shapeCasts_S4096x1024_S4096x1024) w
    (constant S4096x512 .f32 0x00000000#32) r l
  rw [shapeCast_self] at h
  refine Eq.trans ?_ (h.trans ?_)
  · unfold dotV; rw [shapeCast_self]; rfl
  · show Ideal.ofBits .f32 0x00000000#32 + _ = _
    rw [Ideal.ofBits_zero_f32, zero_add]

variable (m : (ℓ : Loc nD τ sig) → Buf (Elt Ideal) ℓ)

/-- The staging buffer holds the device's columns of `x`, unchanged. -/
theorem xstg_at (c : Dev nD) (i : S4096x1024.Idx) : xstg m c i = m ((c : Thread nD τ).loc main_arg0) i := by
  show m ((c : Thread nD τ).loc main_arg0) _ = _
  refine congrArg (m ((c : Thread nD τ).loc main_arg0)) (funext fun a => Fin.ext ?_)
  exact win0_0.rect_emb_val_of_index_zero (0 : Fin 1) a rfl i

/-- Fetch `t` of direction `di` brings the columns of block `wBlk c di t`. -/
theorem wcol_at (c : Dev nD) (di : Fin 2) (t : Fin 8) (i : S1024x512.Idx) (j : S1024x8192.Idx) (h0 : (j 0).val = (i 0).val)
    (h1 : (j 1).val = 512 * wBlk c di t.val + (i 1).val) : wcol m c di t.val i = m ((c : Thread nD τ).loc main_arg1) j := by
  have o := off_w c di t
  have o0 := congrFun o 0
  have o1 := congrFun o 1
  show m ((c : Thread nD τ).loc main_arg1) _ = _
  refine congrArg (m ((c : Thread nD τ).loc main_arg1)) (funext fun a => Fin.ext ?_)
  match a with
  | ⟨0, _⟩ =>
    show k0_off1 c (k0_off1_at (fIx di t.val)).1 (k0_off1_at (fIx di t.val)).2 0 + 1 * (i 0).val = (j 0).val
    rw [o0, h0]; show 0 + 1 * (i 0).val = _; omega
  | ⟨1, _⟩ =>
    show k0_off1 c (k0_off1_at (fIx di t.val)).1 (k0_off1_at (fIx di t.val)).2 1 + 1 * (i 1).val = (j 1).val
    rw [o1, h1]; show 512 * wBlk c di t.val + 1 * (i 1).val = _; omega

/-! ## The four terms of a block -/

/-- The last send of round `p`'s reduce is the gelu of the four devices' products, added along the ring. -/
theorem val_at (di p : Fin 2) (c : Dev nD) (i : S4096x512.Idx) :
    val m di (6 * p.val + 3) c i
      = gelu1 (part m di (4 * p.val + 3) c i + (part m di (4 * p.val + 2) (src di c) i
        + (part m di (4 * p.val + 1) (src di (src di c)) i + part m di (4 * p.val) (src di (src di (src di c))) i))) := by
  match p with
  | 0 => rfl
  | 1 => rfl

/-- The four devices' products of one block are of the same columns. -/
theorem blk_along (di p : Fin 2) (c : Dev nD) :
    wBlk c di (4 * p.val + 3) = 8 * di.val + 4 * p.val + c.val
    ∧ wBlk (src di c) di (4 * p.val + 2) = 8 * di.val + 4 * p.val + c.val
    ∧ wBlk (src di (src di c)) di (4 * p.val + 1) = 8 * di.val + 4 * p.val + c.val
    ∧ wBlk (src di (src di (src di c))) di (4 * p.val) = 8 * di.val + 4 * p.val + c.val := by
  revert di p c; decide

/-- Round the ring from any device, in either direction, a sum meets every device once. -/
theorem sum_along (di : Fin 2) (c : Dev nD) (f : Fin 4 → EReal) :
    f c + (f (src di c) + (f (src di (src di c)) + f (src di (src di (src di c))))) = ∑ d : Fin 4, f d := by
  rw [Fin.sum_univ_four]
  match di, c with
  | 0, 0 => show f 0 + (f 3 + (f 2 + f 1)) = _; ac_rfl
  | 0, 1 => show f 1 + (f 0 + (f 3 + f 2)) = _; ac_rfl
  | 0, 2 => show f 2 + (f 1 + (f 0 + f 3)) = _; ac_rfl
  | 0, 3 => show f 3 + (f 2 + (f 1 + f 0)) = _; ac_rfl
  | 1, 0 => show f 0 + (f 1 + (f 2 + f 3)) = _; ac_rfl
  | 1, 1 => show f 1 + (f 2 + (f 3 + f 0)) = _; ac_rfl
  | 1, 2 => show f 2 + (f 3 + (f 0 + f 1)) = _; ac_rfl
  | 1, 3 => show f 3 + (f 0 + (f 1 + f 2)) = _; ac_rfl

/-- The four devices' 1024 terms each are the 4096 terms of the whole. -/
theorem sum_whole (g : Fin 4096 → EReal) : ∑ d : Fin 4, ∑ k : Fin 1024, g ⟨d.val * 1024 + k.val, by omega⟩ = ∑ k : Fin 4096, g k := by
  rw [← Fintype.sum_prod_type' (fun (d : Fin 4) (k : Fin 1024) => g ⟨d.val * 1024 + k.val, by omega⟩),
    ← Equiv.sum_comp (finProdFinEquiv (m := 4) (n := 1024)) g]
  refine Finset.sum_congr rfl fun x _ => congrArg g (Fin.ext ?_)
  show x.1.val * 1024 + x.2.val = x.2.val + 1024 * x.1.val
  omega

/-! ## The result -/

variable (X : (⟨2, ![4096, 4096]⟩ : Shape).Idx → EReal) (W : (⟨2, ![4096, 8192]⟩ : Shape).Idx → EReal)

/-- Every device starts from its columns of `X` and its rows of `W`. -/
def Placed : Prop := ∀ c : Fin 4,
  m ((c : Thread nD τ).loc main_arg0) = Layout.block ⟨2, ![4096, 1024]⟩ ⟨2, ![4096, 4096]⟩ 1 4 c X
    ∧ m ((c : Thread nD τ).loc main_arg1) = Layout.block ⟨2, ![1024, 8192]⟩ ⟨2, ![4096, 8192]⟩ 0 4 c W

variable {m X W}

/-- One device's product: its share of the inner product. -/
theorem part_at (h : Placed m X W) (c : Fin 4) (di : Fin 2) (t : Fin 8) (r : Fin 4096) (l : Fin 512) (j : Fin 8192)
    (hj : j.val = 512 * wBlk c di t.val + l.val) :
    part m di t.val c (ix2 r l) = ∑ k : Fin 1024, X (ix2 r ⟨c.val * 1024 + k.val, by omega⟩) * W (ix2 ⟨c.val * 1024 + k.val, by omega⟩ j) := by
  refine (dot_at _ _ r l).trans (Finset.sum_congr rfl fun k _ => ?_)
  have hx := (xstg_at m c (ix2 r k)).trans (congrFun (h c).1 (ix2 r k))
  have hw := (wcol_at m c di t (ix2 k l) (ix2 k j) rfl hj).trans (congrFun (h c).2 (ix2 k j))
  refine congrArg₂ (fun a b : EReal => a * b) (hx.trans (congrArg X (funext fun a => Fin.ext ?_)))
    (hw.trans (congrArg W (funext fun a => Fin.ext ?_)))
  · match a with
    | ⟨0, _⟩ => rfl
    | ⟨1, _⟩ => rfl
  · match a with
    | ⟨0, _⟩ => rfl
    | ⟨1, _⟩ => rfl

/-- A finished block: the gelu of the whole inner products. -/
theorem val_whole (h : Placed m X W) (di p : Fin 2) (c : Fin 4) (r : Fin 4096) (l : Fin 512) (j : Fin 8192)
    (hj : j.val = 512 * (8 * di.val + 4 * p.val + c.val) + l.val) : val m di (6 * p.val + 3) c (ix2 r l) = outEntry X W r j := by
  obtain ⟨b3, b2, b1, b0⟩ := blk_along di p c
  let f : Fin 4 → EReal := fun d => ∑ k : Fin 1024, X (ix2 r ⟨d.val * 1024 + k.val, by omega⟩) * W (ix2 ⟨d.val * 1024 + k.val, by omega⟩ j)
  have t (q : Fin 4) (d : Fin 4) (hb : wBlk d di (4 * p.val + q.val) = 8 * di.val + 4 * p.val + c.val) :
      part m di (4 * p.val + q.val) d (ix2 r l) = f d :=
    part_at h d di ⟨4 * p.val + q.val, by omega⟩ r l j (by rw [hj, ← hb])
  rw [val_at]
  refine congrArg gelu1 (Eq.trans ?_ ((sum_along di c f).trans (sum_whole fun k => X (ix2 r k) * W (ix2 k j))))
  exact congrArg₂ (fun a b : EReal => a + b) (t 3 c b3) (congrArg₂ (fun a b : EReal => a + b) (t 2 _ b2)
    (congrArg₂ (fun a b : EReal => a + b) (t 1 _ b1) (t 0 _ b0)))

/-- The kernel's result, entry by entry. -/
theorem OUT_at (h : Placed m X W) (i : S4096x8192.Idx) : OUT m i = outEntry X W (i 0) (i 1) := by
  have hi : (i 1).val < 8192 := (i 1).isLt
  exact val_whole h ⟨(i 1).val / 4096 % 2, Nat.mod_lt _ (by decide)⟩ ⟨(i 1).val / 2048 % 2, Nat.mod_lt _ (by decide)⟩
    ⟨(i 1).val / 512 % 4, Nat.mod_lt _ (by decide)⟩ (i 0) ⟨(i 1).val % 512, Nat.mod_lt _ (by decide)⟩ (i 1)
    (by show (i 1).val = 512 * (8 * ((i 1).val / 4096 % 2) + 4 * ((i 1).val / 2048 % 2) + (i 1).val / 512 % 4) + (i 1).val % 512; omega)

/-! ## The reference -/

/-- The reference's gelu, entry by entry. -/
theorem ref_gelu_at (e : FVec Ideal S4096x8192 .f32) (i : S4096x8192.Idx) :
    mulf (mulf (broadcastInDim S4096x8192 ![] Cert.ReferenceIdeal.Facts₀.bcast_S_S4096x8192 (constant Cert.ReferenceIdeal.S_ .f32 0x3F000000#32)) e)
      (addf (broadcastInDim S4096x8192 ![] Cert.ReferenceIdeal.Facts₀.bcast_S_S4096x8192 (constant Cert.ReferenceIdeal.S_ .f32 0x3F800000#32))
        (Host.tanh (mulf (broadcastInDim S4096x8192 ![] Cert.ReferenceIdeal.Facts₀.bcast_S_S4096x8192 (constant Cert.ReferenceIdeal.S_ .f32 0x3F4C422A#32))
          (addf e (mulf (broadcastInDim S4096x8192 ![] Cert.ReferenceIdeal.Facts₀.bcast_S_S4096x8192 (constant Cert.ReferenceIdeal.S_ .f32 0x3D372713#32))
            (mulf (mulf e e) e)))))) i = gelu1 (e i) := rfl

/-- The reference's product, entry by entry. -/
theorem ref_dot_at (i : S4096x8192.Idx) :
    (Host.dotGeneral (F := Ideal) (φ₁ := .bf16) (φ₂ := .bf16) Cert.ReferenceIdeal.dot_S4096x4096_S4096x8192_S4096x8192_1_0_0_1_n_n none X W : FVec Ideal S4096x8192 .f32) i
      = ∑ k : Fin 4096, X (ix2 (i 0) k) * W (ix2 k (i 1)) := by
  rw [eq_ix2 i]
  exact StackMember.dotGeneral_plain_apply none X W (i 0) (i 1)

end Cert.RingProof

end
-- ==== Proof.lean ====
/- The claims: the frames of the three programs, the idealization and the algebraic equation, from the kernel's run
   (Proof/Launch.lean) and its value at the ideal floats (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

section
open Cert.KernelIdeal Cert.KernelIdeal.Gen

/-- The kernel runs on every device, its inputs end unchanged and every semaphore at zero: over the float values `F`. -/
def FrameOver (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0)

/-- It does, over any float values. -/
theorem frame_over (F : FTy → Type) [FloatOps F] : FrameOver F := fun m ρ _ =>
  (θ_run (defs (F := F)) _ _).mono (fun _ h => ⟨fun c => ⟨(h.1 c).1, (h.1 c).2.1⟩, h.2⟩) (Cert.RingProof.run_main (F := F) m ρ)

/-- The kernel and its idealization have the same text, so the kernel's frame is the one over machine floats. -/
theorem frame_same : Cert.quiescent_Kernel = FrameOver Bits := by chain_rfl

end

/-- The frame of the kernel. -/
theorem frame_kernel : Cert.quiescent_Kernel := frame_same.mpr (frame_over Bits)

/-- The frame of its idealization. -/
theorem frame_kernelIdeal : Cert.quiescent_KernelIdeal := frame_over Ideal

/-- The reference runs, its inputs end unchanged; it has no semaphore. -/
theorem frame_reference : Cert.quiescent_ReferenceIdeal := fun m ρ _ =>
  (θ_run (Cert.ReferenceIdeal.defs (F := Ideal)) _ _).mono (fun _ h => ⟨fun c => ⟨(h c).2.1, (h c).2.2⟩, sem_eq_zero_of_no_sems rfl _⟩)
    (Cert.ReferenceIdeal.Value.run (F := Ideal) m ρ)

/-- From the device's parts of the same arrays, every device's result is the reference's. -/
theorem value : Cert.algebraic_KernelIdeal_ReferenceIdeal := fun m ρ m' ρ' _ h =>
  ⟨fun i => Cert.RingProof.outEntry (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) (i 0) (i 1),
    (θ_run (Cert.KernelIdeal.defs (F := Ideal)) _ _).mono
      (fun _ k c => ⟨(k.1 c).2.2.trans (funext fun i => Cert.RingProof.OUT_at h i), (k.1 c).1, (k.1 c).2.1⟩)
      (Cert.RingProof.run_main (F := Ideal) m ρ),
    (θ_run (Cert.ReferenceIdeal.defs (F := Ideal)) _ _).mono
      (fun _ k => ⟨(k 0).1.trans (funext fun i => (Cert.RingProof.ref_gelu_at _ i).trans (congrArg Cert.RingProof.gelu1 (Cert.RingProof.ref_dot_at i))),
        (k 0).2.1, (k 0).2.2⟩)
      (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
